-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values_13) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000x81 : Shape := ⟨2, ![1000, 81]⟩
abbrev S1000x4 : Shape := ⟨2, ![1000, 4]⟩
abbrev S1000 : Shape := ⟨1, ![1000]⟩
abbrev S1000x80 : Shape := ⟨2, ![1000, 80]⟩
abbrev S_ : Shape := ⟨0, ![]⟩
abbrev S80000 : Shape := ⟨1, ![80000]⟩
abbrev S1000x1 : Shape := ⟨2, ![1000, 1]⟩
abbrev S24x4 : Shape := ⟨2, ![24, 4]⟩
abbrev S1024x4 : Shape := ⟨2, ![1024, 4]⟩
abbrev S24 : Shape := ⟨1, ![24]⟩
abbrev S1024 : Shape := ⟨1, ![1024]⟩
abbrev S1024x1 : Shape := ⟨2, ![1024, 1]⟩
abbrev S1024x2 : Shape := ⟨2, ![1024, 2]⟩
abbrev S1024x8 : Shape := ⟨2, ![1024, 8]⟩
abbrev S8x1024 : Shape := ⟨2, ![8, 1024]⟩
abbrev S128x8 : Shape := ⟨2, ![128, 8]⟩
abbrev S1024x1024 : Shape := ⟨2, ![1024, 1024]⟩
abbrev S1x1024 : Shape := ⟨2, ![1, 1024]⟩
abbrev S128x1 : Shape := ⟨2, ![128, 1]⟩
abbrev S128x1024 : Shape := ⟨2, ![128, 1024]⟩
abbrev S1x128 : Shape := ⟨2, ![1, 128]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1x128 : Shape := ⟨3, ![1, 1, 128]⟩
abbrev S128 : Shape := ⟨1, ![128]⟩
abbrev S128x896 : Shape := ⟨2, ![128, 896]⟩
abbrev S1x896 : Shape := ⟨2, ![1, 896]⟩
abbrev S128x768 : Shape := ⟨2, ![128, 768]⟩
abbrev S1x768 : Shape := ⟨2, ![1, 768]⟩
abbrev S128x640 : Shape := ⟨2, ![128, 640]⟩
abbrev S1x640 : Shape := ⟨2, ![1, 640]⟩
abbrev S128x512 : Shape := ⟨2, ![128, 512]⟩
abbrev S1x512 : Shape := ⟨2, ![1, 512]⟩
abbrev S128x384 : Shape := ⟨2, ![128, 384]⟩
abbrev S1x384 : Shape := ⟨2, ![1, 384]⟩
abbrev S128x256 : Shape := ⟨2, ![128, 256]⟩
abbrev S1x256 : Shape := ⟨2, ![1, 256]⟩
abbrev S1x1x1024 : Shape := ⟨3, ![1, 1, 1024]⟩
abbrev S1024x128 : Shape := ⟨2, ![1024, 128]⟩
abbrev S100x1 : Shape := ⟨2, ![100, 1]⟩
abbrev S100 : Shape := ⟨1, ![100]⟩
abbrev S100x4 : Shape := ⟨2, ![100, 4]⟩

abbrev nBuf : Space → Nat
  | .hbm => 90
  | .vmem => 5
  | .smem => 0
  | _ => 0

abbrev bufTy : (tb : Table) → Fin (tcTables nBuf tb) → BufTy
  | .hbm, ⟨0, _⟩ => ⟨S1000x81, .f32⟩
  | .hbm, ⟨1, _⟩ => ⟨S1000x4, .f32⟩
  | .hbm, ⟨2, _⟩ => ⟨S1000, .i32⟩
  | .hbm, ⟨3, _⟩ => ⟨S1000x80, .f32⟩
  | .hbm, ⟨4, _⟩ => ⟨S1000x80, .f32⟩
  | .hbm, ⟨5, _⟩ => ⟨S1000x80, .f32⟩
  | .hbm, ⟨6, _⟩ => ⟨S_, .f32⟩
  | .hbm, ⟨7, _⟩ => ⟨S1000x80, .f32⟩
  | .hbm, ⟨8, _⟩ => ⟨S1000x80, .f32⟩
  | .hbm, ⟨9, _⟩ => ⟨S_, .f32⟩
  | .hbm, ⟨10, _⟩ => ⟨S1000x80, .f32⟩
  | .hbm, ⟨11, _⟩ => ⟨S1000x80, .f32⟩
  | .hbm, ⟨12, _⟩ => ⟨S80000, .f32⟩
  | .hbm, ⟨13, _⟩ => ⟨S1000, .f32⟩
  | .hbm, ⟨14, _⟩ => ⟨S1000, .i32⟩
  | .hbm, ⟨15, _⟩ => ⟨S_, .i32⟩
  | .hbm, ⟨16, _⟩ => ⟨S_, .i32⟩
  | .hbm, ⟨17, _⟩ => ⟨S1000, .i32⟩
  | .hbm, ⟨18, _⟩ => ⟨S1000, .i32⟩
  | .hbm, ⟨19, _⟩ => ⟨S1000, .i32⟩
  | .hbm, ⟨20, _⟩ => ⟨S_, .i32⟩
  | .hbm, ⟨21, _⟩ => ⟨S1000, .i32⟩
  | .hbm, ⟨22, _⟩ => ⟨S1000, .i1⟩
  | .hbm, ⟨23, _⟩ => ⟨S1000, .i32⟩
  | .hbm, ⟨24, _⟩ => ⟨S1000, .i32⟩
  | .hbm, ⟨25, _⟩ => ⟨S_, .i32⟩
  | .hbm, ⟨26, _⟩ => ⟨S1000, .i32⟩
  | .hbm, ⟨27, _⟩ => ⟨S1000, .i1⟩
  | .hbm, ⟨28, _⟩ => ⟨S1000, .i1⟩
  | .hbm, ⟨29, _⟩ => ⟨S_, .i32⟩
  | .hbm, ⟨30, _⟩ => ⟨S1000, .i32⟩
  | .hbm, ⟨31, _⟩ => ⟨S1000, .i32⟩
  | .hbm, ⟨32, _⟩ => ⟨S1000, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S1000, .i32⟩
  | .hbm, ⟨40, _⟩ => ⟨S1000, .i32⟩
  | .hbm, ⟨41, _⟩ => ⟨S_, .i32⟩
  | .hbm, ⟨42, _⟩ => ⟨S1000, .i32⟩
  | .hbm, ⟨43, _⟩ => ⟨S1000, .i1⟩
  | .hbm, ⟨44, _⟩ => ⟨S_, .i32⟩
  | .hbm, ⟨45, _⟩ => ⟨S1000, .i32⟩
  | .hbm, ⟨46, _⟩ => ⟨S1000, .i1⟩
  | .hbm, ⟨47, _⟩ => ⟨S_, .i32⟩
  | .hbm, ⟨48, _⟩ => ⟨S_, .i1⟩
  | .hbm, ⟨49, _⟩ => ⟨S1000, .i1⟩
  | .hbm, ⟨50, _⟩ => ⟨S1000, .i1⟩
  | .hbm, ⟨51, _⟩ => ⟨S1000, .i1⟩
  | .hbm, ⟨52, _⟩ => ⟨S1000, .i32⟩
  | .hbm, ⟨53, _⟩ => ⟨S1000, .i32⟩
  | .hbm, ⟨54, _⟩ => ⟨S1000, .i32⟩
  | .hbm, ⟨55, _⟩ => ⟨S1000, .f32⟩
  | .hbm, ⟨56, _⟩ => ⟨S_, .i32⟩
  | .hbm, ⟨57, _⟩ => ⟨S1000, .i32⟩
  | .hbm, ⟨58, _⟩ => ⟨S1000, .i1⟩
  | .hbm, ⟨59, _⟩ => ⟨S_, .i32⟩
  | .hbm, ⟨60, _⟩ => ⟨S1000, .i32⟩
  | .hbm, ⟨61, _⟩ => ⟨S1000, .i32⟩
  | .hbm, ⟨62, _⟩ => ⟨S1000, .i32⟩
  | .hbm, ⟨63, _⟩ => ⟨S1000x1, .i32⟩
  | .hbm, ⟨64, _⟩ => ⟨S1000x4, .f32⟩
  | .hbm, ⟨65, _⟩ => ⟨S_, .f32⟩
  | .hbm, ⟨66, _⟩ => ⟨S24x4, .f32⟩
  | .hbm, ⟨67, _⟩ => ⟨S1024x4, .f32⟩
  | .hbm, ⟨68, _⟩ => ⟨S_, .f32⟩
  | .hbm, ⟨69, _⟩ => ⟨S24, .f32⟩
  | .hbm, ⟨70, _⟩ => ⟨S1024, .f32⟩
  | .hbm, ⟨71, _⟩ => ⟨S_, .f32⟩
  | .hbm, ⟨72, _⟩ => ⟨S24, .f32⟩
  | .hbm, ⟨73, _⟩ => ⟨S1024, .f32⟩
  | .hbm, ⟨74, _⟩ => ⟨S1024x1, .f32⟩
  | .hbm, ⟨75, _⟩ => ⟨S1024x1, .f32⟩
  | .hbm, ⟨76, _⟩ => ⟨S_, .f32⟩
  | .hbm, ⟨77, _⟩ => ⟨S1024x2, .f32⟩
  | .hbm, ⟨78, _⟩ => ⟨S1024x8, .f32⟩
  | .hbm, ⟨79, _⟩ => ⟨S8x1024, .f32⟩
  | .hbm, ⟨80, _⟩ => ⟨S128x8, .f32⟩
  | .hbm, ⟨81, _⟩ => ⟨S100x1, .f32⟩
  | .hbm, ⟨82, _⟩ => ⟨S100, .f32⟩
  | .hbm, ⟨83, _⟩ => ⟨S100x1, .f32⟩
  | .hbm, ⟨84, _⟩ => ⟨S100, .f32⟩
  | .hbm, ⟨85, _⟩ => ⟨S100, .f32⟩
  | .hbm, ⟨86, _⟩ => ⟨S100, .i32⟩
  | .hbm, ⟨87, _⟩ => ⟨S100x4, .f32⟩
  | .hbm, ⟨88, _⟩ => ⟨S_, .i32⟩
  | .hbm, ⟨89, _⟩ => ⟨S100, .i32⟩
  | .local _ .vmem, ⟨0, _⟩ => ⟨S8x1024, .f32⟩
  | .local _ .vmem, ⟨1, _⟩ => ⟨S1024x8, .f32⟩
  | .local _ .vmem, ⟨2, _⟩ => ⟨S128x8, .f32⟩
  | .local _ .vmem, ⟨3, _⟩ => ⟨S1024x1024, .f32⟩
  | .local _ .vmem, ⟨4, _⟩ => ⟨S1x1024, .f32⟩
  | _, _ => ⟨S1000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v9 : Ref sig .tc := ⟨.hbm, 54, rfl⟩
abbrev main_v10 : Ref sig .tc := ⟨.hbm, 55, rfl⟩
abbrev main_c_2 : Ref sig .tc := ⟨.hbm, 56, rfl⟩
abbrev main_v11 : Ref sig .tc := ⟨.hbm, 57, rfl⟩
abbrev main_v12 : Ref sig .tc := ⟨.hbm, 58, rfl⟩
abbrev main_c_3 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_4 : Ref sig .tc := ⟨.hbm, 65, rfl⟩
abbrev main_v18 : Ref sig .tc := ⟨.hbm, 66, rfl⟩
abbrev main_v19 : Ref sig .tc := ⟨.hbm, 67, rfl⟩
abbrev main_cst_5 : Ref sig .tc := ⟨.hbm, 68, rfl⟩
abbrev main_v20 : Ref sig .tc := ⟨.hbm, 69, rfl⟩
abbrev main_v21 : Ref sig .tc := ⟨.hbm, 70, rfl⟩
abbrev main_cst_6 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_7 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_8 : Ref sig .tc := ⟨.hbm, 88, rfl⟩
abbrev main_v37 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop (v428 : BitVec 32) : Scf.Loop 32 :=
  let c0_i32_75 : BitVec 32 := 0#32
  let v429 : BitVec 32 := Scalar.subi v428 c0_i32_75
  let c1_i32_76 : BitVec 32 := 1#32
  let v431 : BitVec 32 := Scalar.divsi v429 c1_i32_76
  let v432 : BitVec 32 := Scalar.muli v431 c1_i32_76
  let v433 : BitVec 32 := Scalar.addi c0_i32_75 v432
  let c1_i32_77 : BitVec 32 := 1#32
  ⟨c0_i32_75, v433, c1_i32_77⟩

@[reducible] def k0_t2_loop (v428 : BitVec 32) : Scf.Loop 32 :=
  let c0_i32_75 : BitVec 32 := 0#32
  let v429 : BitVec 32 := Scalar.subi v428 c0_i32_75
  let c1_i32_76 : BitVec 32 := 1#32
  let v431 : BitVec 32 := Scalar.divsi v429 c1_i32_76
  let v432 : BitVec 32 := Scalar.muli v431 c1_i32_76
  let v433 : BitVec 32 := Scalar.addi c0_i32_75 v432
  let v430 : BitVec 32 := Scalar.addi c0_i32_75 v429
  let c1_i32_78 : BitVec 32 := 1#32
  ⟨v433, v430, c1_i32_78⟩

def k0_chk1 (v428 : BitVec 32) : Prop :=
  ((k0_t1_loop v428).OK) ∧
  ((k0_t2_loop v428).OK)
theorem k0_t1_ok : ∀ (v428 : BitVec 32) (k0_hw1 : k0_chk1 v428), (k0_t1_loop v428).OK := fun v428 k0_hw1 => k0_hw1.1
theorem k0_t2_ok : ∀ (v428 : BitVec 32) (k0_hw1 : k0_chk1 v428), (k0_t2_loop v428).OK := fun v428 k0_hw1 => k0_hw1.2

@[reducible] def k0_t3_loop (v463 : BitVec 32) : Scf.Loop 32 :=
  let c0_i32_97 : BitVec 32 := 0#32
  let v464 : BitVec 32 := Scalar.subi v463 c0_i32_97
  let c1_i32_98 : BitVec 32 := 1#32
  let v466 : BitVec 32 := Scalar.divsi v464 c1_i32_98
  let v467 : BitVec 32 := Scalar.muli v466 c1_i32_98
  let v468 : BitVec 32 := Scalar.addi c0_i32_97 v467
  let c1_i32_99 : BitVec 32 := 1#32
  ⟨c0_i32_97, v468, c1_i32_99⟩

@[reducible] def k0_t4_loop (v463 : BitVec 32) : Scf.Loop 32 :=
  let c0_i32_97 : BitVec 32 := 0#32
  let v464 : BitVec 32 := Scalar.subi v463 c0_i32_97
  let c1_i32_98 : BitVec 32 := 1#32
  let v466 : BitVec 32 := Scalar.divsi v464 c1_i32_98
  let v467 : BitVec 32 := Scalar.muli v466 c1_i32_98
  let v468 : BitVec 32 := Scalar.addi c0_i32_97 v467
  let v465 : BitVec 32 := Scalar.addi c0_i32_97 v464
  let c1_i32_100 : BitVec 32 := 1#32
  ⟨v468, v465, c1_i32_100⟩

def k0_chk2 (v463 : BitVec 32) : Prop :=
  ((k0_t3_loop v463).OK) ∧
  ((k0_t4_loop v463).OK)
theorem k0_t3_ok : ∀ (v463 : BitVec 32) (k0_hw2 : k0_chk2 v463), (k0_t3_loop v463).OK := fun v463 k0_hw2 => k0_hw2.1
theorem k0_t4_ok : ∀ (v463 : BitVec 32) (k0_hw2 : k0_chk2 v463), (k0_t4_loop v463).OK := fun v463 k0_hw2 => k0_hw2.2

@[reducible] def k0_t5_loop (v498 : BitVec 32) : Scf.Loop 32 :=
  let c0_i32_119 : BitVec 32 := 0#32
  let v499 : BitVec 32 := Scalar.subi v498 c0_i32_119
  let c1_i32_120 : BitVec 32 := 1#32
  let v501 : BitVec 32 := Scalar.divsi v499 c1_i32_120
  let v502 : BitVec 32 := Scalar.muli v501 c1_i32_120
  let v503 : BitVec 32 := Scalar.addi c0_i32_119 v502
  let c1_i32_121 : BitVec 32 := 1#32
  ⟨c0_i32_119, v503, c1_i32_121⟩

@[reducible] def k0_t6_loop (v498 : BitVec 32) : Scf.Loop 32 :=
  let c0_i32_119 : BitVec 32 := 0#32
  let v499 : BitVec 32 := Scalar.subi v498 c0_i32_119
  let c1_i32_120 : BitVec 32 := 1#32
  let v501 : BitVec 32 := Scalar.divsi v499 c1_i32_120
  let v502 : BitVec 32 := Scalar.muli v501 c1_i32_120
  let v503 : BitVec 32 := Scalar.addi c0_i32_119 v502
  let v500 : BitVec 32 := Scalar.addi c0_i32_119 v499
  let c1_i32_122 : BitVec 32 := 1#32
  ⟨v503, v500, c1_i32_122⟩

def k0_chk3 (v498 : BitVec 32) : Prop :=
  ((k0_t5_loop v498).OK) ∧
  ((k0_t6_loop v498).OK)
theorem k0_t5_ok : ∀ (v498 : BitVec 32) (k0_hw3 : k0_chk3 v498), (k0_t5_loop v498).OK := fun v498 k0_hw3 => k0_hw3.1
theorem k0_t6_ok : ∀ (v498 : BitVec 32) (k0_hw3 : k0_chk3 v498), (k0_t6_loop v498).OK := fun v498 k0_hw3 => k0_hw3.2

@[reducible] def k0_t7_loop (v533 : BitVec 32) : Scf.Loop 32 :=
  let c0_i32_141 : BitVec 32 := 0#32
  let v534 : BitVec 32 := Scalar.subi v533 c0_i32_141
  let c1_i32_142 : BitVec 32 := 1#32
  let v536 : BitVec 32 := Scalar.divsi v534 c1_i32_142
  let v537 : BitVec 32 := Scalar.muli v536 c1_i32_142
  let v538 : BitVec 32 := Scalar.addi c0_i32_141 v537
  let c1_i32_143 : BitVec 32 := 1#32
  ⟨c0_i32_141, v538, c1_i32_143⟩

@[reducible] def k0_t8_loop (v533 : BitVec 32) : Scf.Loop 32 :=
  let c0_i32_141 : BitVec 32 := 0#32
  let v534 : BitVec 32 := Scalar.subi v533 c0_i32_141
  let c1_i32_142 : BitVec 32 := 1#32
  let v536 : BitVec 32 := Scalar.divsi v534 c1_i32_142
  let v537 : BitVec 32 := Scalar.muli v536 c1_i32_142
  let v538 : BitVec 32 := Scalar.addi c0_i32_141 v537
  let v535 : BitVec 32 := Scalar.addi c0_i32_141 v534
  let c1_i32_144 : BitVec 32 := 1#32
  ⟨v538, v535, c1_i32_144⟩

def k0_chk4 (v533 : BitVec 32) : Prop :=
  ((k0_t7_loop v533).OK) ∧
  ((k0_t8_loop v533).OK)
theorem k0_t7_ok : ∀ (v533 : BitVec 32) (k0_hw4 : k0_chk4 v533), (k0_t7_loop v533).OK := fun v533 k0_hw4 => k0_hw4.1
theorem k0_t8_ok : ∀ (v533 : BitVec 32) (k0_hw4 : k0_chk4 v533), (k0_t8_loop v533).OK := fun v533 k0_hw4 => k0_hw4.2

@[reducible] def k0_t9_loop (v568 : BitVec 32) : Scf.Loop 32 :=
  let c0_i32_163 : BitVec 32 := 0#32
  let v569 : BitVec 32 := Scalar.subi v568 c0_i32_163
  let c1_i32_164 : BitVec 32 := 1#32
  let v571 : BitVec 32 := Scalar.divsi v569 c1_i32_164
  let v572 : BitVec 32 := Scalar.muli v571 c1_i32_164
  let v573 : BitVec 32 := Scalar.addi c0_i32_163 v572
  let c1_i32_165 : BitVec 32 := 1#32
  ⟨c0_i32_163, v573, c1_i32_165⟩

@[reducible] def k0_t10_loop (v568 : BitVec 32) : Scf.Loop 32 :=
  let c0_i32_163 : BitVec 32 := 0#32
  let v569 : BitVec 32 := Scalar.subi v568 c0_i32_163
  let c1_i32_164 : BitVec 32 := 1#32
  let v571 : BitVec 32 := Scalar.divsi v569 c1_i32_164
  let v572 : BitVec 32 := Scalar.muli v571 c1_i32_164
  let v573 : BitVec 32 := Scalar.addi c0_i32_163 v572
  let v570 : BitVec 32 := Scalar.addi c0_i32_163 v569
  let c1_i32_166 : BitVec 32 := 1#32
  ⟨v573, v570, c1_i32_166⟩

def k0_chk5 (v568 : BitVec 32) : Prop :=
  ((k0_t9_loop v568).OK) ∧
  ((k0_t10_loop v568).OK)
theorem k0_t9_ok : ∀ (v568 : BitVec 32) (k0_hw5 : k0_chk5 v568), (k0_t9_loop v568).OK := fun v568 k0_hw5 => k0_hw5.1
theorem k0_t10_ok : ∀ (v568 : BitVec 32) (k0_hw5 : k0_chk5 v568), (k0_t10_loop v568).OK := fun v568 k0_hw5 => k0_hw5.2

@[reducible] def k0_t11_loop (v603 : BitVec 32) : Scf.Loop 32 :=
  let c0_i32_185 : BitVec 32 := 0#32
  let v604 : BitVec 32 := Scalar.subi v603 c0_i32_185
  let c1_i32_186 : BitVec 32 := 1#32
  let v606 : BitVec 32 := Scalar.divsi v604 c1_i32_186
  let v607 : BitVec 32 := Scalar.muli v606 c1_i32_186
  let v608 : BitVec 32 := Scalar.addi c0_i32_185 v607
  let c1_i32_187 : BitVec 32 := 1#32
  ⟨c0_i32_185, v608, c1_i32_187⟩

@[reducible] def k0_t12_loop (v603 : BitVec 32) : Scf.Loop 32 :=
  let c0_i32_185 : BitVec 32 := 0#32
  let v604 : BitVec 32 := Scalar.subi v603 c0_i32_185
  let c1_i32_186 : BitVec 32 := 1#32
  let v606 : BitVec 32 := Scalar.divsi v604 c1_i32_186
  let v607 : BitVec 32 := Scalar.muli v606 c1_i32_186
  let v608 : BitVec 32 := Scalar.addi c0_i32_185 v607
  let v605 : BitVec 32 := Scalar.addi c0_i32_185 v604
  let c1_i32_188 : BitVec 32 := 1#32
  ⟨v608, v605, c1_i32_188⟩

def k0_chk6 (v603 : BitVec 32) : Prop :=
  ((k0_t11_loop v603).OK) ∧
  ((k0_t12_loop v603).OK)
theorem k0_t11_ok : ∀ (v603 : BitVec 32) (k0_hw6 : k0_chk6 v603), (k0_t11_loop v603).OK := fun v603 k0_hw6 => k0_hw6.1
theorem k0_t12_ok : ∀ (v603 : BitVec 32) (k0_hw6 : k0_chk6 v603), (k0_t12_loop v603).OK := fun v603 k0_hw6 => k0_hw6.2

@[reducible] def k0_t13_loop (v638 : BitVec 32) : Scf.Loop 32 :=
  let c0_i32_207 : BitVec 32 := 0#32
  let v639 : BitVec 32 := Scalar.subi v638 c0_i32_207
  let c1_i32_208 : BitVec 32 := 1#32
  let v641 : BitVec 32 := Scalar.divsi v639 c1_i32_208
  let v642 : BitVec 32 := Scalar.muli v641 c1_i32_208
  let v643 : BitVec 32 := Scalar.addi c0_i32_207 v642
  let c1_i32_209 : BitVec 32 := 1#32
  ⟨c0_i32_207, v643, c1_i32_209⟩

@[reducible] def k0_t14_loop (v638 : BitVec 32) : Scf.Loop 32 :=
  let c0_i32_207 : BitVec 32 := 0#32
  let v639 : BitVec 32 := Scalar.subi v638 c0_i32_207
  let c1_i32_208 : BitVec 32 := 1#32
  let v641 : BitVec 32 := Scalar.divsi v639 c1_i32_208
  let v642 : BitVec 32 := Scalar.muli v641 c1_i32_208
  let v643 : BitVec 32 := Scalar.addi c0_i32_207 v642
  let v640 : BitVec 32 := Scalar.addi c0_i32_207 v639
  let c1_i32_210 : BitVec 32 := 1#32
  ⟨v643, v640, c1_i32_210⟩

def k0_chk7 (v638 : BitVec 32) : Prop :=
  ((k0_t13_loop v638).OK) ∧
  ((k0_t14_loop v638).OK)
theorem k0_t13_ok : ∀ (v638 : BitVec 32) (k0_hw7 : k0_chk7 v638), (k0_t13_loop v638).OK := fun v638 k0_hw7 => k0_hw7.1
theorem k0_t14_ok : ∀ (v638 : BitVec 32) (k0_hw7 : k0_chk7 v638), (k0_t14_loop v638).OK := fun v638 k0_hw7 => k0_hw7.2

@[reducible] def k0_t15_loop (v673 : BitVec 32) : Scf.Loop 32 :=
  let c0_i32_229 : BitVec 32 := 0#32
  let v674 : BitVec 32 := Scalar.subi v673 c0_i32_229
  let c1_i32_230 : BitVec 32 := 1#32
  let v676 : BitVec 32 := Scalar.divsi v674 c1_i32_230
  let v677 : BitVec 32 := Scalar.muli v676 c1_i32_230
  let v678 : BitVec 32 := Scalar.addi c0_i32_229 v677
  let c1_i32_231 : BitVec 32 := 1#32
  ⟨c0_i32_229, v678, c1_i32_231⟩

@[reducible] def k0_t16_loop (v673 : BitVec 32) : Scf.Loop 32 :=
  let c0_i32_229 : BitVec 32 := 0#32
  let v674 : BitVec 32 := Scalar.subi v673 c0_i32_229
  let c1_i32_230 : BitVec 32 := 1#32
  let v676 : BitVec 32 := Scalar.divsi v674 c1_i32_230
  let v677 : BitVec 32 := Scalar.muli v676 c1_i32_230
  let v678 : BitVec 32 := Scalar.addi c0_i32_229 v677
  let v675 : BitVec 32 := Scalar.addi c0_i32_229 v674
  let c1_i32_232 : BitVec 32 := 1#32
  ⟨v678, v675, c1_i32_232⟩

def k0_chk8 (v673 : BitVec 32) : Prop :=
  ((k0_t15_loop v673).OK) ∧
  ((k0_t16_loop v673).OK)
theorem k0_t15_ok : ∀ (v673 : BitVec 32) (k0_hw8 : k0_chk8 v673), (k0_t15_loop v673).OK := fun v673 k0_hw8 => k0_hw8.1
theorem k0_t16_ok : ∀ (v673 : BitVec 32) (k0_hw8 : k0_chk8 v673), (k0_t16_loop v673).OK := fun v673 k0_hw8 => k0_hw8.2

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1000x81 : Shape := ⟨2, ![1000, 81]⟩
abbrev S1000x4 : Shape := ⟨2, ![1000, 4]⟩
abbrev S1000 : Shape := ⟨1, ![1000]⟩
abbrev S1000x80 : Shape := ⟨2, ![1000, 80]⟩
abbrev S_ : Shape := ⟨0, ![]⟩
abbrev S80000 : Shape := ⟨1, ![80000]⟩
abbrev S80 : Shape := ⟨1, ![80]⟩
abbrev S1x80 : Shape := ⟨2, ![1, 80]⟩
abbrev S1000x1 : Shape := ⟨2, ![1000, 1]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩

abbrev nBuf : Space → Nat
  | .hbm => 189
  | .vmem => 0
  | .smem => 0
  | _ => 0

abbrev hbmTy0_0 (i : Nat) : BufTy := match i % 128 with
  | 0 => ⟨S1000x81, .f32⟩
  | 1 => ⟨S1000x4, .f32⟩
  | 2 => ⟨S1000, .i32⟩
  | 3 => ⟨S1000x80, .f32⟩
  | 4 => ⟨S1000x80, .f32⟩
  | 5 => ⟨S1000x80, .f32⟩
  | 6 => ⟨S_, .f32⟩
  | 7 => ⟨S1000x80, .f32⟩
  | 8 => ⟨S1000x80, .f32⟩
  | 9 => ⟨S_, .f32⟩
  | 10 => ⟨S1000x80, .f32⟩
  | 11 => ⟨S1000x80, .f32⟩
  | 12 => ⟨S80000, .f32⟩
  | 13 => ⟨S80, .i32⟩
  | 14 => ⟨S1x80, .i32⟩
  | 15 => ⟨S1000x80, .i32⟩
  | 16 => ⟨S80000, .i32⟩
  | 17 => ⟨S1000, .i32⟩
  | 18 => ⟨S1000x80, .i32⟩
  | 19 => ⟨S80000, .i32⟩
  | 20 => ⟨S1000, .f32⟩
  | 21 => ⟨S1000, .i32⟩
  | 22 => ⟨S_, .i32⟩
  | 23 => ⟨S1000, .i32⟩
  | 24 => ⟨S1000, .i1⟩
  | 25 => ⟨S_, .i32⟩
  | 26 => ⟨S1000, .i32⟩
  | 27 => ⟨S1000, .i32⟩
  | 28 => ⟨S1000, .i32⟩
  | 29 => ⟨S1000x1, .i32⟩
  | 30 => ⟨S1000, .i32⟩
  | 31 => ⟨S_, .i32⟩
  | 32 => ⟨S1000, .i32⟩
  | 33 => ⟨S1000, .i1⟩
  | 34 => ⟨S_, .i32⟩
  | 35 => ⟨S1000, .i32⟩
  | 36 => ⟨S1000, .i32⟩
  | 37 => ⟨S1000, .i32⟩
  | 38 => ⟨S1000x1, .i32⟩
  | 39 => ⟨S1000, .i32⟩
  | 40 => ⟨S_, .i32⟩
  | 41 => ⟨S1000, .i32⟩
  | 42 => ⟨S1000, .i1⟩
  | 43 => ⟨S_, .i32⟩
  | 44 => ⟨S1000, .i32⟩
  | 45 => ⟨S1000, .i32⟩
  | 46 => ⟨S1000, .i32⟩
  | 47 => ⟨S1000x1, .i32⟩
  | 48 => ⟨S1000x4, .f32⟩
  | 49 => ⟨S1000, .f32⟩
  | 50 => ⟨S1000x1, .f32⟩
  | 51 => ⟨S_, .f32⟩
  | 52 => ⟨S1000x1, .f32⟩
  | 53 => ⟨S1000x1, .f32⟩
  | 54 => ⟨S1000x4, .f32⟩
  | 55 => ⟨S1000x4, .f32⟩
  | 56 => ⟨S1000x1, .f32⟩
  | 57 => ⟨S1000, .f32⟩
  | 58 => ⟨S1000x1, .f32⟩
  | 59 => ⟨S1000, .f32⟩
  | 60 => ⟨S1000, .f32⟩
  | 61 => ⟨S1000x1, .f32⟩
  | 62 => ⟨S1000, .f32⟩
  | 63 => ⟨S1000x1, .f32⟩
  | 64 => ⟨S1000, .f32⟩
  | 65 => ⟨S1000, .f32⟩
  | 66 => ⟨S1000, .f32⟩
  | 67 => ⟨S1000x1, .f32⟩
  | 68 => ⟨S1000, .f32⟩
  | 69 => ⟨S1000x1, .f32⟩
  | 70 => ⟨S1000, .f32⟩
  | 71 => ⟨S1000, .f32⟩
  | 72 => ⟨S1000x1, .f32⟩
  | 73 => ⟨S1000, .f32⟩
  | 74 => ⟨S1000x1, .f32⟩
  | 75 => ⟨S1000, .f32⟩
  | 76 => ⟨S1000, .f32⟩
  | 77 => ⟨S1000, .f32⟩
  | 78 => ⟨S1000x2, .f32⟩
  | 79 => ⟨S1000x1x2, .f32⟩
  | 80 => ⟨S1000x2, .f32⟩
  | 81 => ⟨S1x1000x2, .f32⟩
  | 82 => ⟨S1000x1000x2, .f32⟩
  | 83 => ⟨S1000x1000x2, .f32⟩
  | 84 => ⟨S1000x1000x2, .f32⟩
  | 85 => ⟨S1000x2, .f32⟩
  | 86 => ⟨S1000x1x2, .f32⟩
  | 87 => ⟨S1000x2, .f32⟩
  | 88 => ⟨S1x1000x2, .f32⟩
  | 89 => ⟨S1000x1000x2, .f32⟩
  | 90 => ⟨S1000x1000x2, .f32⟩
  | 91 => ⟨S1000x1000x2, .f32⟩
  | 92 => ⟨S1000x1000x2, .f32⟩
  | 93 => ⟨S_, .f32⟩
  | 94 => ⟨S_, .f32⟩
  | 95 => ⟨S1000x1000x2, .f32⟩
  | 96 => ⟨S1000x1000x2, .f32⟩
  | 97 => ⟨S1000x1000x1, .f32⟩
  | 98 => ⟨S1000x1000, .f32⟩
  | 99 => ⟨S1000x1000x1, .f32⟩
  | 100 => ⟨S1000x1000, .f32⟩
  | 101 => ⟨S1000x1000, .f32⟩
  | 102 => ⟨S1000x1, .f32⟩
  | 103 => ⟨S1x1000, .f32⟩
  | 104 => ⟨S1000x1000, .f32⟩
  | 105 => ⟨S1000x1000, .f32⟩
  | 106 => ⟨S1000x1000, .f32⟩
  | 107 => ⟨S1000x1000, .f32⟩
  | 108 => ⟨S_, .f32⟩
  | 109 => ⟨S1000x1000, .f32⟩
  | 110 => ⟨S1000x1000, .f32⟩
  | 111 => ⟨S1000x1000, .f32⟩
  | 112 => ⟨S1000, .i32⟩
  | 113 => ⟨S_, .i1⟩
  | 114 => ⟨S1000, .i1⟩
  | 115 => ⟨S_, .i32⟩
  | 116 => ⟨S_, .i32⟩
  | 117 => ⟨S1000x1000, .f32⟩
  | 118 => ⟨S1000, .i32⟩
  | 119 => ⟨S_, .i32⟩
  | 120 => ⟨S_, .i32⟩
  | 121 => ⟨S1000, .i1⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S1000x81, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S1x1000, .f32⟩
  | 13 => ⟨S1000, .f32⟩
  | 14 => ⟨S_, .f32⟩
  | 15 => ⟨S1000, .f32⟩
  | 16 => ⟨S1000, .i1⟩
  | 17 => ⟨S_, .i32⟩
  | 18 => ⟨S1000, .i32⟩
  | 19 => ⟨S1000, .i1⟩
  | 20 => ⟨S1000, .i1⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1, .i1⟩
  | 28 => ⟨S_, .i1⟩
  | 29 => ⟨S1000, .i1⟩
  | 30 => ⟨S1000, .i1⟩
  | 31 => ⟨S1000, .i1⟩
  | 32 => ⟨S1000, .i1⟩
  | 33 => ⟨S_, .i32⟩
  | 34 => ⟨S_, .i32⟩
  | 35 => ⟨S_, .f32⟩
  | 36 => ⟨S_, .f32⟩
  | 37 => ⟨S1000, .f32⟩
  | 38 => ⟨S1000, .f32⟩
  | 39 => ⟨S100, .f32⟩
  | 40 => ⟨S100, .i32⟩
  | 41 => ⟨S_, .i32⟩
  | 42 => ⟨S100, .i32⟩
  | 43 => ⟨S100, .i1⟩
  | 44 => ⟨S_, .i32⟩
  | 45 => ⟨S100, .i32⟩
  | 46 => ⟨S100, .i32⟩
  | 47 => ⟨S100, .i32⟩
  | 48 => ⟨S100x1, .i32⟩
  | 49 => ⟨S100, .i32⟩
  | 50 => ⟨S_, .i32⟩
  | 51 => ⟨S100, .i32⟩
  | 52 => ⟨S100, .i1⟩
  | 53 => ⟨S_, .i32⟩
  | 54 => ⟨S100, .i32⟩
  | 55 => ⟨S100, .i32⟩
  | 56 => ⟨S100, .i32⟩
  | 57 => ⟨S100x1, .i32⟩
  | 58 => ⟨S100x4, .f32⟩
  | 59 => ⟨S_, .i32⟩
  | 60 => ⟨S100, .i32⟩
  | _ => ⟨S1000x81, .f32⟩

abbrev hbmTy (i : Nat) : BufTy := match i / 128 with
  | 0 => hbmTy0_0 i
  | 1 => hbmTy0_1 i
  | _ => ⟨S1000x81, .f32⟩

abbrev bufTy : (tb : Table) → Fin (tcTables nBuf tb) → BufTy
  | .hbm, ⟨i, _⟩ => hbmTy i
  | _, _ => ⟨S1000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_call0_v0 : Ref sig .tc := ⟨.hbm, 94, rfl⟩
abbrev main_call0_v1 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_8 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_c_9 : Ref sig .tc := ⟨.hbm, 113, rfl⟩
abbrev main_v95 : Ref sig .tc := ⟨.hbm, 114, rfl⟩
abbrev main_c_10 : Ref sig .tc := ⟨.hbm, 115, rfl⟩
abbrev main_c_11 : Ref sig .tc := ⟨.hbm, 116, rfl⟩
abbrev main_v96_0 : Ref sig .tc := ⟨.hbm, 117, rfl⟩
abbrev main_v96_1 : Ref sig .tc := ⟨.hbm, 118, rfl⟩
abbrev main_v96_2 : Ref sig .tc := ⟨.hbm, 119, rfl⟩
abbrev main_v96_3 : Ref sig .tc := ⟨.hbm, 120, rfl⟩
abbrev main_v96_4 : Ref sig .tc := ⟨.hbm, 121, rfl⟩
abbrev main_while0c_c_24 : Ref sig .tc := ⟨.hbm, 122, rfl⟩
abbrev main_while0c_v113 : Ref sig .tc := ⟨.hbm, 123, rfl⟩
abbrev main_while0b_c_24 : Ref sig .tc := ⟨.hbm, 124, rfl⟩
abbrev main_while0b_v113 : Ref sig .tc := ⟨.hbm, 125, rfl⟩
abbrev main_while0b_v114 : Ref sig .tc := ⟨.hbm, 126, rfl⟩
abbrev main_while0b_c_25 : Ref sig .tc := ⟨.hbm, 127, rfl⟩
abbrev main_while0b_v115 : Ref sig .tc := ⟨.hbm, 128, rfl⟩
abbrev main_while0b_c_26 : Ref sig .tc := ⟨.hbm, 129, rfl⟩
abbrev main_while0b_v116 : Ref sig .tc := ⟨.hbm, 130, rfl⟩
abbrev main_while0b_v117 : Ref sig .tc := ⟨.hbm, 131, rfl⟩
abbrev main_while0b_c_27 : Ref sig .tc := ⟨.hbm, 132, rfl⟩
abbrev main_while0b_c_28 : Ref sig .tc := ⟨.hbm, 133, rfl⟩
abbrev main_while0b_v118 : Ref sig .tc := ⟨.hbm, 134, rfl⟩
abbrev main_while0b_c_29 : Ref sig .tc := ⟨.hbm, 135, rfl⟩
abbrev main_while0b_c_30 : Ref sig .tc := ⟨.hbm, 136, rfl⟩
abbrev main_while0b_v119 : Ref sig .tc := ⟨.hbm, 137, rfl⟩
abbrev main_while0b_c_31 : Ref sig .tc := ⟨.hbm, 138, rfl⟩
abbrev main_while0b_v120 : Ref sig .tc := ⟨.hbm, 139, rfl⟩
abbrev main_while0b_v121 : Ref sig .tc := ⟨.hbm, 140, rfl⟩
abbrev main_while0b_v122 : Ref sig .tc := ⟨.hbm, 141, rfl⟩
abbrev main_while0b_cst_32 : Ref sig .tc := ⟨.hbm, 142, rfl⟩
abbrev main_while0b_v123 : Ref sig .tc := ⟨.hbm, 143, rfl⟩
abbrev main_while0b_v124 : Ref sig .tc := ⟨.hbm, 144, rfl⟩
abbrev main_while0b_v125 : Ref sig .tc := ⟨.hbm, 145, rfl⟩
abbrev main_while0b_v126 : Ref sig .tc := ⟨.hbm, 146, rfl⟩
abbrev main_while0b_v127 : Ref sig .tc := ⟨.hbm, 147, rfl⟩
abbrev main_while0b_v128 : Ref sig .tc := ⟨.hbm, 148, rfl⟩
abbrev main_while0b_c_33 : Ref sig .tc := ⟨.hbm, 149, rfl⟩
abbrev main_while0b_v129 : Ref sig .tc := ⟨.hbm, 150, rfl⟩
abbrev main_while0b_v130 : Ref sig .tc := ⟨.hbm, 151, rfl⟩
abbrev main_while0b_c_34 : Ref sig .tc := ⟨.hbm, 152, rfl⟩
abbrev main_while0b_v131 : Ref sig .tc := ⟨.hbm, 153, rfl⟩
abbrev main_while0b_v132 : Ref sig .tc := ⟨.hbm, 154, rfl⟩
abbrev main_while0b_v133 : Ref sig .tc := ⟨.hbm, 155, rfl⟩
abbrev main_while0b_v134 : Ref sig .tc := ⟨.hbm, 156, rfl⟩
abbrev main_while0b_v135 : Ref sig .tc := ⟨.hbm, 157, rfl⟩
abbrev main_while0b_v136 : Ref sig .tc := ⟨.hbm, 158, rfl⟩
abbrev main_while0b_v137 : Ref sig .tc := ⟨.hbm, 159, rfl⟩
abbrev main_while0b_v138 : Ref sig .tc := ⟨.hbm, 160, rfl⟩
abbrev main_while0b_c_35 : Ref sig .tc := ⟨.hbm, 161, rfl⟩
abbrev main_while0b_v139 : Ref sig .tc := ⟨.hbm, 162, rfl⟩
abbrev main_cst_12 : Ref sig .tc := ⟨.hbm, 163, rfl⟩
abbrev main_call1_v0 : Ref sig .tc := ⟨.hbm, 164, rfl⟩
abbrev main_call1_v1 : Ref sig .tc := ⟨.hbm, 165, rfl⟩
abbrev main_v97 : Ref sig .tc := ⟨.hbm, 166, rfl⟩
abbrev main_values_13 : Ref sig .tc := ⟨.hbm, 167, rfl⟩
abbrev main_indices_14 : Ref sig .tc := ⟨.hbm, 168, rfl⟩
abbrev main_c_15 : Ref sig .tc := ⟨.hbm, 169, rfl⟩
abbrev main_v98 : Ref sig .tc := ⟨.hbm, 170, rfl⟩
abbrev main_v99 : Ref sig .tc := ⟨.hbm, 171, rfl⟩
abbrev main_c_16 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_c_17 : Ref sig .tc := ⟨.hbm, 178, rfl⟩
abbrev main_v105 : Ref sig .tc := ⟨.hbm, 179, rfl⟩
abbrev main_v106 : Ref sig .tc := ⟨.hbm, 180, rfl⟩
abbrev main_c_18 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_19 : Ref sig .tc := ⟨.hbm, 187, rfl⟩
abbrev main_v112 : Ref sig .tc := ⟨.hbm, 188, rfl⟩

abbrev nD : Nat := 1
abbrev τ : Topo := Topo.v7x

variable {F : FTy → Type} [FloatOps F]

abbrev main_while0_count : Scf.Loop 32 := ⟨0#32, 1000#32, 1#32⟩
-- ==== Proof.Nms.lean ====
/-
  Greedy suppression over an ordered list of candidates, on natural numbers, and the order in which a stable
  selection lists the survivors before the suppressed. No program is mentioned here.
-/
module

public import Mathlib.Data.EReal.Operations
public import Mathlib.Data.Nat.Count
public import Mathlib.Algebra.BigOperators.Fin

@[expose] public section

namespace SegNms

/-! ## The greedy rule -/

/-- Candidate `c` is still alive after the candidates before `n` have had their turn: candidate `n` removes `c` when
    `c` comes later, `n` itself is alive, and the two overlap (`o n c`). -/
def alive (o : ℕ → ℕ → Prop) : ℕ → ℕ → Prop
  | 0, _ => True
  | n + 1, c => alive o n c ∧ ¬(n < c ∧ alive o n n ∧ o n c)

/-- Candidate `c` survives. -/
def kept (o : ℕ → ℕ → Prop) (c : ℕ) : Prop := alive o c c

/-- Before the first step every candidate is alive. -/
theorem alive_zero (o : ℕ → ℕ → Prop) (c : ℕ) : alive o 0 c := trivial

/-- Step `n` switches off the later candidates that `n` overlaps, if `n` itself is kept. -/
theorem alive_succ (o : ℕ → ℕ → Prop) (n c : ℕ) :
    alive o (n + 1) c ↔ alive o n c ∧ ¬(n < c ∧ kept o n ∧ o n c) := Iff.rfl

/-- Several turns at once. -/
theorem alive_add (o : ℕ → ℕ → Prop) (n c : ℕ) : ∀ m,
    alive o (n + m) c ↔ alive o n c ∧ ∀ l, l < m → ¬(n + l < c ∧ kept o (n + l) ∧ o (n + l) c)
  | 0 => by simp
  | m + 1 => by
    rw [← Nat.add_assoc, alive_succ, alive_add o n c m]
    constructor
    · rintro ⟨⟨h1, h2⟩, h3⟩
      refine ⟨h1, fun l hl => ?_⟩
      rcases Nat.lt_succ_iff_lt_or_eq.mp hl with h | rfl
      · exact h2 l h
      · exact h3
    · rintro ⟨h1, h2⟩
      exact ⟨⟨h1, fun l hl => h2 l (by omega)⟩, h2 m (by omega)⟩

/-- Turns in which nobody later overlaps `c` change nothing for `c`. -/
theorem alive_idle (o : ℕ → ℕ → Prop) (n c m : ℕ) (h : ∀ l, l < m → n + l < c → ¬ o (n + l) c) :
    alive o (n + m) c ↔ alive o n c := by
  rw [alive_add]
  exact ⟨fun h' => h'.1, fun h' => ⟨h', fun l hl hh => h l hl hh.1 hh.2.2⟩⟩

/-- From its own turn on, a candidate's state is final. -/
theorem alive_final (o : ℕ → ℕ → Prop) (n c : ℕ) (h : c ≤ n) : alive o n c ↔ kept o c := by
  obtain ⟨m, rfl⟩ := Nat.exists_eq_add_of_le h
  exact alive_idle o c c m fun l _ hl => absurd hl (by omega)

/-- Only overlaps of an earlier with a later candidate matter, and only up to the candidate asked for. -/
theorem alive_congr {o o' : ℕ → ℕ → Prop} {N : ℕ} (h : ∀ i j, i < j → j < N → (o i j ↔ o' i j)) :
    ∀ n c, c < N → (alive o n c ↔ alive o' n c)
  | 0, _, _ => Iff.rfl
  | n + 1, c, hc => by
    refine and_congr (alive_congr h n c hc) (not_congr ?_)
    constructor
    · rintro ⟨h1, h2, h3⟩
      exact ⟨h1, (alive_congr h n n (by omega)).mp h2, (h n c h1 hc).mp h3⟩
    · rintro ⟨h1, h2, h3⟩
      exact ⟨h1, (alive_congr h n n (by omega)).mpr h2, (h n c h1 hc).mpr h3⟩

/-! ## Zeros and ones for truth values -/

open Classical in
/-- One for a true statement, zero for a false one. -/
noncomputable def ind (p : Prop) : EReal := if p then 1 else 0

/-- The indicator of what holds is one. -/
theorem ind_true {p : Prop} (h : p) : ind p = 1 := if_pos h
/-- The indicator of what does not hold is zero. -/
theorem ind_false {p : Prop} (h : ¬p) : ind p = 0 := if_neg h

/-- Equivalent statements have the same indicator. -/
theorem ind_congr {p q : Prop} (h : p ↔ q) : ind p = ind q := by rw [propext h]

/-- A product of indicators is the indicator of both. -/
theorem ind_mul (p q : Prop) : ind p * ind q = ind (p ∧ q) := by
  by_cases hp : p <;> by_cases hq : q <;> simp [ind, hp, hq]

/-- One minus an indicator is the indicator of the opposite. -/
theorem one_sub_ind (p : Prop) : 1 - ind p = ind (¬p) := by
  by_cases hp : p
  · rw [ind_true hp, ind_false (not_not.mpr hp)]; exact EReal.sub_self (by decide) (by decide)
  · rw [ind_false hp, ind_true hp]; exact sub_zero _

/-- Indicators are equal exactly when the statements are equivalent. -/
theorem ind_inj {p q : Prop} : ind p = ind q ↔ (p ↔ q) := by
  by_cases hp : p <;> by_cases hq : q <;> simp [ind, hp, hq]

open Classical in
/-- A sum of truth values counts the true ones. -/
theorem sum_ind {n : ℕ} (p : Fin n → Prop) : ∑ k, ind (p k) = (((Finset.univ.filter p).card : ℕ) : EReal) := by
  rw [Finset.card_filter, Nat.cast_sum]
  refine Finset.sum_congr rfl fun k _ => ?_
  by_cases h : p k <;> simp [ind, h]

open Classical in
/-- How many of the numbers below `n` have the property. -/
noncomputable def cnt (p : ℕ → Prop) (n : ℕ) : ℕ := Nat.count p n

open Classical in
/-- The count of those below `n`, as the library's. -/
theorem cnt_def (p : ℕ → Prop) (n : ℕ) : cnt p n = Nat.count p n := rfl

/-- None are below zero. -/
theorem cnt_zero (p : ℕ → Prop) : cnt p 0 = 0 := by rw [cnt_def, Nat.count_zero]

/-- The count grows by one past an element that has the property. -/
theorem cnt_succ_of {p : ℕ → Prop} {n : ℕ} (h : p n) : cnt p (n + 1) = cnt p n + 1 := by
  rw [cnt_def, cnt_def, Nat.count_succ, if_pos h]

/-- The count stays past an element that has not. -/
theorem cnt_succ_of_not {p : ℕ → Prop} {n : ℕ} (h : ¬ p n) : cnt p (n + 1) = cnt p n := by
  rw [cnt_def, cnt_def, Nat.count_succ, if_neg h]; rfl

/-- The count is monotone. -/
theorem cnt_mono (p : ℕ → Prop) {a b : ℕ} (h : a ≤ b) : cnt p a ≤ cnt p b := by
  classical exact (cnt_def p a ▸ cnt_def p b ▸ Nat.count_monotone p h)

open Classical in
/-- The number of true statements among those below `c`, as a count over a longer range. -/
theorem card_lt_count (q : ℕ → Prop) (n c : ℕ) (h : c ≤ n) :
    (Finset.univ.filter fun k : Fin n => q k ∧ (k : ℕ) < c).card = cnt q c := by
  unfold cnt
  rw [Nat.count_eq_card_filter_range]
  refine Finset.card_bij (fun k _ => (k : ℕ)) ?_ ?_ ?_
  · intro k hk
    simp only [Finset.mem_filter, Finset.mem_univ, true_and, Finset.mem_range] at hk ⊢
    exact ⟨hk.2, hk.1⟩
  · intro a _ b _ hab; exact Fin.ext hab
  · intro b hb
    simp only [Finset.mem_filter, Finset.mem_range] at hb
    exact ⟨⟨b, by omega⟩, by simp [hb.1, hb.2], rfl⟩

/-- Two natural numbers equal as extended reals are equal. -/
theorem natCast_inj {a b : ℕ} : ((a : ℕ) : EReal) = ((b : ℕ) : EReal) ↔ a = b := by
  norm_cast

/-! ## Survivors first, then the suppressed, each in order -/

open Classical in
/-- The place of candidate `c` among `N`, survivors listed first. -/
noncomputable def slot (keep : ℕ → Prop) (N c : ℕ) : ℕ :=
  if keep c then cnt keep c else cnt keep N + cnt (fun k => ¬ keep k) c

section slots
open Classical

variable {keep : ℕ → Prop} {N : ℕ}

/-- Those with the property and those without make up all. -/
theorem count_add_not (keep : ℕ → Prop) : ∀ n, cnt keep n + cnt (fun k => ¬ keep k) n = n
  | 0 => by rw [cnt_zero, cnt_zero]
  | n + 1 => by
    have ih := count_add_not keep n
    by_cases h : keep n
    · rw [cnt_succ_of h, cnt_succ_of_not (p := fun k => ¬ keep k) (not_not.mpr h)]; omega
    · rw [cnt_succ_of_not h, cnt_succ_of (p := fun k => ¬ keep k) h]; omega

/-- Past an element with the property the count is greater. -/
theorem count_lt_of {p : ℕ → Prop} {a b : ℕ} (ha : p a) (h : a < b) : cnt p a < cnt p b := by
  have h1 : cnt p (a + 1) ≤ cnt p b := cnt_mono p h
  rw [cnt_succ_of ha] at h1
  omega

/-- A kept candidate's slot is the number of kept ones before it. -/
theorem slot_kept {c : ℕ} (h : keep c) : slot keep N c = cnt keep c := if_pos h
/-- A dropped candidate's slot comes after all the kept ones and the dropped ones before it. -/
theorem slot_dropped {c : ℕ} (h : ¬ keep c) :
    slot keep N c = cnt keep N + cnt (fun k => ¬ keep k) c := if_neg h

/-- A place is below `N`. -/
theorem slot_lt {c : ℕ} (hc : c < N) : slot keep N c < N := by
  have h := count_add_not keep N
  by_cases hk : keep c
  · rw [slot_kept hk]
    have := count_lt_of (p := keep) hk hc
    omega
  · rw [slot_dropped hk]
    have := count_lt_of (p := fun k => ¬ keep k) hk hc
    omega

/-- A place is among the survivors' exactly when its holder survives. -/
theorem slot_lt_total {c : ℕ} (hc : c < N) : slot keep N c < cnt keep N ↔ keep c := by
  by_cases hk : keep c
  · rw [slot_kept hk]; exact ⟨fun _ => hk, fun _ => count_lt_of hk hc⟩
  · rw [slot_dropped hk]; exact ⟨fun h => absurd h (by omega), fun h => absurd h hk⟩

/-- A smaller count belongs to an earlier place. -/
theorem count_lt_imp {p : ℕ → Prop} {a b : ℕ} (h : cnt p a < cnt p b) : a < b := by
  by_contra hn
  exact absurd (cnt_mono p (Nat.le_of_not_lt hn)) (by omega)

/-- The earlier place is a survivor's before a suppressed one's, or the earlier candidate's of the same kind. -/
theorem slot_lt_cases {a b : ℕ} (hb : b < N) (h : slot keep N a < slot keep N b) :
    (keep a ∧ ¬ keep b) ∨ ((keep a ↔ keep b) ∧ a < b) := by
  by_cases ka : keep a <;> by_cases kb : keep b
  · rw [slot_kept ka, slot_kept kb] at h
    exact Or.inr ⟨by simp [ka, kb], count_lt_imp h⟩
  · exact Or.inl ⟨ka, kb⟩
  · rw [slot_dropped ka, slot_kept kb] at h
    have := count_lt_of (p := keep) kb hb
    omega
  · rw [slot_dropped ka, slot_dropped kb] at h
    exact Or.inr ⟨by simp [ka, kb], count_lt_imp (p := fun k => ¬ keep k) (by omega)⟩

/-- No two candidates have the same slot. -/
theorem slot_inj {a b : ℕ} (ha : a < N) (hb : b < N) (h : slot keep N a = slot keep N b) : a = b := by
  have key : ∀ {a b : ℕ}, a < N → b < N → a < b → slot keep N a ≠ slot keep N b := by
    intro a b ha hb hab
    by_cases ka : keep a <;> by_cases kb : keep b
    · rw [slot_kept ka, slot_kept kb]; exact Nat.ne_of_lt (count_lt_of ka hab)
    · rw [slot_kept ka, slot_dropped kb]
      have := count_lt_of (p := keep) ka ha
      omega
    · rw [slot_dropped ka, slot_kept kb]
      have := count_lt_of (p := keep) kb hb
      omega
    · rw [slot_dropped ka, slot_dropped kb]
      have := count_lt_of (p := fun k => ¬ keep k) ka hab
      omega
  rcases Nat.lt_trichotomy a b with hab | hab | hab
  · exact absurd h (key ha hb hab)
  · exact hab
  · exact absurd h.symm (key hb ha hab)

/-- Who holds place `s`. -/
theorem exists_slot (keep : ℕ → Prop) (N : ℕ) : ∃ σ : Fin N → Fin N, ∀ s, slot keep N (σ s) = s := by
  have hf : Function.Injective fun c : Fin N => (⟨slot keep N c, slot_lt c.isLt⟩ : Fin N) := by
    intro a b h
    exact Fin.ext (slot_inj a.isLt b.isLt (congrArg Fin.val h))
  have hs := Finite.injective_iff_surjective.mp hf
  exact ⟨fun s => (hs s).choose, fun s => congrArg Fin.val (hs s).choose_spec⟩

end slots

end SegNms
-- ==== Proof.Iou.lean ====
/-
  The overlap of two boxes after the class offset, as the extended real both programs compute, and what one block of
  the kernel's overlap table holds: one where the overlap of the block's row with the column exceeds the threshold.
-/
module

public import Idealize.ShloMosaic.Lib.Pointwise
public import proofs.«01_k».proof.Defs
public import proofs.«01_k».proof.Proof.Gen.KernelIdeal.Frame
public import proofs.«01_k».proof.Proof.Nms

@[expose] public section

namespace SegNms

open Idealize.ShloMosaic

/-- The class offset per label, `10000`. -/
noncomputable abbrev offW : EReal := Ideal.ofBits .f32 0x461C4000#32
/-- The small constant added to the union. -/
noncomputable abbrev epsW : EReal := Ideal.ofBits .f32 0x33D6BF95#32
/-- The overlap threshold. -/
noncomputable abbrev thrW : EReal := Ideal.ofBits .f32 0x3F266666#32

/-- Coordinate `k` of a candidate (four box coordinates and a label) after the class offset. -/
noncomputable def shifted (a : Fin 5 → EReal) (k : Fin 5) : EReal := a k + a 4 * offW

/-- The area of a candidate's shifted box. -/
noncomputable def area (a : Fin 5 → EReal) : EReal :=
  (shifted a 2 - shifted a 0) * (shifted a 3 - shifted a 1)

/-- The area of the intersection of two candidates' shifted boxes. -/
noncomputable def inter (a b : Fin 5 → EReal) : EReal :=
  max (min (shifted a 2) (shifted b 2) - max (shifted a 0) (shifted b 0)) 0
    * max (min (shifted a 3) (shifted b 3) - max (shifted a 1) (shifted b 1)) 0

/-- The overlap of two candidates. -/
noncomputable def iou (a b : Fin 5 → EReal) : EReal :=
  Ideal.div (inter a b) (area a + area b - inter a b + epsW)

/-- A truth value widened to a word and converted is one or zero. -/
theorem sitofp_bit (p : Prop) [Decidable p] :
    FloatOps.sitofp (F := Ideal) .f32 (BitVec.setWidth 32 (BitVec.ofBool (decide p))) = ind p := by
  by_cases h : p
  · rw [ind_true h, decide_eq_true h]
    show (((BitVec.setWidth 32 (BitVec.ofBool true)).toInt : ℝ) : EReal) = 1
    rw [show (BitVec.setWidth 32 (BitVec.ofBool true)).toInt = 1 from by decide]; simp
  · rw [ind_false h, decide_eq_false h]
    show (((BitVec.setWidth 32 (BitVec.ofBool false)).toInt : ℝ) : EReal) = 0
    rw [show (BitVec.setWidth 32 (BitVec.ofBool false)).toInt = 0 from by decide]; simp

/-- The overlap exceeds the threshold. -/
def overlaps (a b : Fin 5 → EReal) : Prop := thrW < iou a b

end SegNms

namespace Cert.KernelIdeal.Gen

open Idealize.ShloMosaic SegNms

/-- A candidate as a row of the candidate table. -/
def rowOf {n : ℕ} (x : (⟨2, ![n, 8]⟩ : Shape).Idx → EReal) (r : Fin n) : Fin 5 → EReal :=
  fun k => x (ix2 r (Fin.castLE (by decide) k))

/-- A candidate as a column of the transposed table. -/
def colOf {n : ℕ} (x : (⟨2, ![8, n]⟩ : Shape).Idx → EReal) (c : Fin n) : Fin 5 → EReal :=
  fun k => x (ix2 (Fin.castLE (by decide) k) c)

/-- One block of the overlap table, as the first block is computed. -/
noncomputable def oBlock (x0 : FVec Ideal S8x1024 .f32) (dt : FVec Ideal S128x8 .f32) : FVec Ideal S128x1024 .f32 :=
  k0_pay17 (k0_pay8 x0) (k0_pay15 x0 dt) (k0_pay16 dt)

set_option maxRecDepth 16384 in
/-- An entry of a block: one exactly where the overlap exceeds the threshold. -/
theorem oBlock_apply (x0 : FVec Ideal S8x1024 .f32) (dt : FVec Ideal S128x8 .f32) (r : Fin 128) (c : Fin 1024) :
    oBlock x0 dt (ix2 r c) = ind (overlaps (rowOf dt r) (colOf x0 c)) := by
  unfold oBlock
  pointwise [k0_pay2, k0_pay3, k0_pay4, k0_pay5, k0_pay6, k0_pay7, k0_pay8, k0_pay9, k0_pay10, k0_pay11, k0_pay12,
    k0_pay13, k0_pay14, k0_pay15, k0_pay16, k0_pay17]
  exact sitofp_bit _

/-- The overlap table: entry `(r, c)` compares row `r` with column `c`. -/
noncomputable def table (x0 : FVec Ideal S8x1024 .f32) (x1 : FVec Ideal S1024x8 .f32) : FVec Ideal S1024x1024 .f32 :=
  fun y => ind (overlaps (rowOf x1 (y 0)) (colOf x0 (y 1)))

/-- The block computed from the rows starting at `a` is the table's block there. -/
theorem oBlock_table (x0 : FVec Ideal S8x1024 .f32) (x1 : FVec Ideal S1024x8 .f32) (a : ℕ)
    (h8 : ∀ k, (![a, 0] : Fin 2 → ℕ) k + S128x8.size k ≤ S1024x8.size k)
    (hk : ∀ k, (![a, 0] : Fin 2 → ℕ) k + S128x1024.size k ≤ S1024x1024.size k)
    (x : (Rect.unit (s := S1024x1024) ![a, 0] S128x1024.size hk).shape.Idx) :
    oBlock x0 (View.ld (Val := Elt Ideal) (e' := .f32) x1 (Rect.unit (s := S1024x8) ![a, 0] S128x8.size h8)) x
      = table x0 x1 ((Rect.unit (s := S1024x1024) ![a, 0] S128x1024.size hk).emb x) := by
  obtain ⟨r, k, rfl⟩ : ∃ r k, x = ix2 (n0 := 128) (n1 := 1024) r k := ⟨_, _, eq_ix2 x⟩
  rw [oBlock_apply]
  unfold table rowOf colOf
  congr 2
  · funext q
    refine congrArg x1 (funext fun z => Fin.ext ?_)
    fin_cases z
    · rfl
    · show 0 + 1 * (q : ℕ) = q; omega
  · funext q
    refine congrArg x0 (funext fun z => Fin.ext ?_)
    fin_cases z
    · rfl
    · show (k : ℕ) = 0 + 1 * k; omega

/-- The zero offsets, as a function. -/
theorem hz2 : (![0, 0] : Fin 2 → ℕ) = fun _ => 0 := by decide

set_option maxRecDepth 16384 in
/-- The eight blocks the body writes make up the overlap table. -/
theorem canon_HS0 (c : Dev nD) (arg0 : Memref sig .tc .vmem S8x1024 .f32) (harg0 : arg0.IsWhole)
    (arg1 : Memref sig .tc .vmem S1024x8 .f32) (harg1 : arg1.IsWhole)
    (x0 : FVec Ideal S8x1024 .f32) (x1 : FVec Ideal S1024x8 .f32) (y : S1024x1024.Idx) :
    View.canon (kernelRun0_A.sl.HS0_8 (F := Ideal) c arg0 harg0 arg1 harg1 x0 x1) y = table x0 x1 y := by
  refine View.canon_apply_of_pieces (Val := Elt Ideal) (e := .f32) (table x0 x1) _ ?_ y ?_
  · have e0 : View.readAt (Elt Ideal) arg0.view (Rect.unit ![0, 0] S8x1024.size inb_S8x1024_S8x1024_0_0).toLoadRect
        (harg0.unread x0) = x0 := by
      rw [View.readAt_eq_ld, harg0.read_unread, View.ld_unit_zero (S := S8x1024) hz2]
    unfold kernelRun0_A.sl.HS0_8 kernelRun0_A.sl.r_4 kernelRun0_A.sl.r_5 kernelRun0_A.sl.r_6 kernelRun0_A.sl.r_7
      kernelRun0_A.sl.r_8 kernelRun0_A.sl.r_9 kernelRun0_A.sl.r_10 kernelRun0_A.sl.r_11 kernelRun0_A.sl.r_12
      kernelRun0_A.sl.r_13 kernelRun0_A.sl.r_14 kernelRun0_A.sl.r_15 kernelRun0_A.sl.r_16 kernelRun0_A.sl.r_17
      kernelRun0_A.sl.r_18 kernelRun0_A.sl.r_19 kernelRun0_A.sl.r_20
    unfold kernelRun0_A.sl.r kernelRun0_A.sl.r_1 kernelRun0_A.sl.r_2 kernelRun0_A.sl.r_3
    unfold kernelRun0_A.sl.r_4
    simp only [e0, View.readAt_eq_ld, harg1.read_unread]
    refine List.forall_mem_cons.2 ⟨fun x => Eq.trans ?_ (oBlock_table x0 x1 896 inb_S1024x8_S128x8_896_0 inb_S1024x1024_S128x1024_896_0 x), List.forall_mem_cons.2
      ⟨fun x => Eq.trans ?_ (oBlock_table x0 x1 768 inb_S1024x8_S128x8_768_0 inb_S1024x1024_S128x1024_768_0 x), List.forall_mem_cons.2
      ⟨fun x => Eq.trans ?_ (oBlock_table x0 x1 640 inb_S1024x8_S128x8_640_0 inb_S1024x1024_S128x1024_640_0 x), List.forall_mem_cons.2
      ⟨fun x => Eq.trans ?_ (oBlock_table x0 x1 512 inb_S1024x8_S128x8_512_0 inb_S1024x1024_S128x1024_512_0 x), List.forall_mem_cons.2
      ⟨fun x => Eq.trans ?_ (oBlock_table x0 x1 384 inb_S1024x8_S128x8_384_0 inb_S1024x1024_S128x1024_384_0 x), List.forall_mem_cons.2
      ⟨fun x => Eq.trans ?_ (oBlock_table x0 x1 256 inb_S1024x8_S128x8_256_0 inb_S1024x1024_S128x1024_256_0 x), List.forall_mem_cons.2
      ⟨fun x => Eq.trans ?_ (oBlock_table x0 x1 128 inb_S1024x8_S128x8_128_0 inb_S1024x1024_S128x1024_128_0 x), List.forall_mem_cons.2
      ⟨fun x => Eq.trans ?_ (oBlock_table x0 x1 0 inb_S1024x8_S128x8_0_0 inb_S1024x1024_S128x1024_0_0 x), fun _ h => absurd h List.not_mem_nil⟩⟩⟩⟩⟩⟩⟩⟩
    all_goals rfl
  · exact View.cover_of_tiledL
      (kernelRun0_A.sl.HS0_8 (F := Ideal) c arg0 harg0 arg1 harg1 x0 x1) S128x1024.size (by sl_kernel_rfl) y

end Cert.KernelIdeal.Gen
-- ==== Proof.KStep.lean ====
/-
  One block of the suppression: a loop that goes through the block's candidates in order, each switching off the later
  candidates of the block it overlaps when it is itself still on, and stops after the last candidate that overlaps a
  later one. What the loop leaves is the block's part of the greedy selection.
-/
module

public import Idealize.ShloMosaic.Lib.Pointwise
public import Idealize.ShloMosaic.Lib.WordCmp
public import Idealize.ShloMosaic.Lib.WordArith
public import Idealize.ShloMosaic.Lib.SortNet.Extract
public import proofs.«01_k».proof.Defs
public import proofs.«01_k».proof.Proof.Iou

@[expose] public section

namespace SegNms

open Idealize.ShloMosaic

/-- One half. -/
theorem half_eq : Ideal.ofBits .f32 1056964608#32 = ((1 / 2 : ℝ) : EReal) := by
  simp [Ideal.ofBits, Ideal.ieee, -EReal.coe_mul]; norm_num

/-- A truth value as a number exceeds one half exactly when it holds. -/
theorem half_lt_ind (p : Prop) : Ideal.ofBits .f32 1056964608#32 < ind p ↔ p := by
  rw [half_eq]
  by_cases h : p
  · rw [ind_true h]; refine iff_of_true ?_ h
    rw [← EReal.coe_one, EReal.coe_lt_coe_iff]; norm_num
  · rw [ind_false h]; refine iff_of_false ?_ h
    rw [← EReal.coe_zero, EReal.coe_lt_coe_iff]; norm_num

/-- A sum of products of truth values is below one half exactly when no term has both. -/
theorem sum_ind_lt_half {n : ℕ} (p q : Fin n → Prop) :
    ∑ k, ind (p k) * ind (q k) < Ideal.ofBits .f32 1056964608#32 ↔ ∀ k, ¬(p k ∧ q k) := by
  classical
  simp only [ind_mul, sum_ind, half_eq]
  constructor
  · intro h k hk
    have h1 : 1 ≤ (Finset.univ.filter fun k => p k ∧ q k).card :=
      Finset.card_pos.2 ⟨k, Finset.mem_filter.2 ⟨Finset.mem_univ _, hk⟩⟩
    have h2 : ((1 : ℝ) : EReal) ≤ (((Finset.univ.filter fun k => p k ∧ q k).card : ℕ) : EReal) := by
      rw [EReal.coe_one]; exact_mod_cast h1
    exact absurd (lt_of_le_of_lt h2 (by convert h)) (by rw [EReal.coe_lt_coe_iff]; norm_num)
  · intro h
    simp only [h, Finset.filter_false, Finset.card_empty, Nat.cast_zero]
    rw [← EReal.coe_zero, EReal.coe_lt_coe_iff]; norm_num

/-- An invariant kept by every trip of a fold holds of its result. -/
theorem fold_inv {σ : Type} {n : ℕ} (g : Fin n → σ → σ) (z : σ) (P : ℕ → σ → Prop) (h0 : P 0 z)
    (hs : ∀ (k : Fin n) acc, P k acc → P (k + 1) (g k acc)) : P n (Scf.fold g z) := by
  rw [Scf.fold_eq]
  induction n with
  | zero => simpa using h0
  | succ m ih =>
    rw [List.finRange_succ_last, List.foldl_append, List.foldl_map]
    exact hs (Fin.last m) _ (ih (fun k => g k.castSucc) fun k acc => hs k.castSucc acc)

end SegNms

namespace Cert.KernelIdeal.Gen

open Idealize.ShloMosaic SegNms

/-- How many candidates of the block the loop goes through, as the body computes it. -/
noncomputable def nsteps (ob : FVec Ideal S128x128 .f32) : BitVec 32 :=
  extractAt ![0, 0, 0] (k0_pay77 (F := Ideal) ob) inpos_S1x1x1_p0_0_0

set_option maxRecDepth 16384 in
/-- It is the largest of the words `r + 1` over the entries above the diagonal that are on. -/
theorem nsteps_fold (ob : FVec Ideal S128x128 .f32) :
    nsteps ob = Finset.fold IntOp.maxsi (2147483648#32)
      (fun x : Fin 128 × Fin 128 =>
        Scalar.select
          (IntOp.andi (BitVec.ofBool (decide (Ideal.ofBits FTy.f32 1056964608#32 < ob (ix2 x.1 x.2))))
            (IntOp.cmpi CmpIPredicate.slt (BitVec.ofNat 32 ↑x.1) (BitVec.ofNat 32 ↑x.2)))
          (IntOp.addi (BitVec.ofNat 32 ↑x.1) 1#32) 0#32)
      Finset.univ := by
  unfold nsteps
  pointwise [k0_pay77]

/-- So it is at most the block's length, and past every candidate that overlaps a later one. -/
theorem nsteps_spec (ob : FVec Ideal S128x128 .f32) (q : ℕ → ℕ → Prop)
    (hob : ∀ r l : Fin 128, ob (ix2 r l) = ind (q r l)) :
    ∃ N : ℕ, N ≤ 128 ∧ nsteps ob = BitVec.ofNat 32 N ∧ ∀ r l : Fin 128, r < l → q r l → (r : ℕ) + 1 ≤ N := by
  classical
  rw [nsteps_fold]
  have hg : ∀ x : Fin 128 × Fin 128, Scalar.select
          (IntOp.andi (BitVec.ofBool (decide (Ideal.ofBits FTy.f32 1056964608#32 < ob (ix2 x.1 x.2))))
            (IntOp.cmpi CmpIPredicate.slt (BitVec.ofNat 32 ↑x.1) (BitVec.ofNat 32 ↑x.2)))
          (IntOp.addi (BitVec.ofNat 32 ↑x.1) 1#32) 0#32
        = BitVec.ofNat 32 (if q x.1 x.2 ∧ x.1 < x.2 then (x.1 : ℕ) + 1 else 0) := by
    intro x
    have h1 := x.1.isLt
    have h2 := x.2.isLt
    rw [hob, WordCmp.cmpi_slt_ofNat (by omega) (by omega)]
    simp only [half_lt_ind]
    by_cases hq : q x.1 x.2 <;> by_cases hl : x.1 < x.2
    · rw [if_pos ⟨hq, hl⟩]
      have hl' : (x.1 : ℕ) < x.2 := hl
      simp [hq, hl', IntOp.andi, Scalar.select, IntOp.addi, BitVec.ofNat_add]
    all_goals
      rw [if_neg (by tauto)]
      have hl' : ((x.1 : ℕ) < x.2) = (x.1 < x.2) := rfl
      simp [hq, hl', hl, IntOp.andi, Scalar.select]
  simp only [hg]
  obtain ⟨h1, h2, h3⟩ := SortNet.fold_maxsi_spec
    (fun x : Fin 128 × Fin 128 => BitVec.ofNat 32 (if q x.1 x.2 ∧ x.1 < x.2 then (x.1 : ℕ) + 1 else 0))
    Finset.univ 2147483648#32
  set W := Finset.fold IntOp.maxsi 2147483648#32
    (fun x : Fin 128 × Fin 128 => BitVec.ofNat 32 (if q x.1 x.2 ∧ x.1 < x.2 then (x.1 : ℕ) + 1 else 0)) Finset.univ
    with hW
  have hb : ∀ x : Fin 128 × Fin 128, (if q x.1 x.2 ∧ x.1 < x.2 then (x.1 : ℕ) + 1 else 0) ≤ 128 := by
    intro x; split
    · have := x.1.isLt; omega
    · omega
  have ht : ∀ x : Fin 128 × Fin 128,
      (BitVec.ofNat 32 (if q x.1 x.2 ∧ x.1 < x.2 then (x.1 : ℕ) + 1 else 0)).toInt
        = (((if q x.1 x.2 ∧ x.1 < x.2 then (x.1 : ℕ) + 1 else 0) : ℕ) : ℤ) := fun x =>
    WordCmp.toInt_ofNat_of_lt (by have := hb x; omega)
  obtain ⟨x, hx⟩ : ∃ x : Fin 128 × Fin 128, W = BitVec.ofNat 32 (if q x.1 x.2 ∧ x.1 < x.2 then (x.1 : ℕ) + 1 else 0) := by
    rcases h3 with h | ⟨x, -, h⟩
    · have := h2 (0, 0) (Finset.mem_univ _)
      rw [h, ht] at this
      exact absurd (le_trans (Int.natCast_nonneg _) this) (by decide)
    · exact ⟨x, h⟩
  refine ⟨_, hb x, hx, fun r l hrl hq => ?_⟩
  have := h2 (r, l) (Finset.mem_univ _)
  rw [hx, ht, ht] at this
  simp only [hrl, hq, and_self, if_true] at this
  exact_mod_cast this

/-- The loop's upper bound is the word itself, -/
theorem loop_trips (n : BitVec 32) (N : ℕ) (hN : N ≤ 128) (hn : n = BitVec.ofNat 32 N) :
    (k0_t1_loop n).trips = N := by
  subst hn
  show Scf.trips 0#32 (0#32 + (IntOp.divsi .scalar (BitVec.ofNat 32 N - 0#32) 1#32) * 1#32) 1#32 = N
  rw [WordArith.divsi_one]
  have h : (BitVec.ofNat 32 N).toInt = (N : ℤ) := WordCmp.toInt_ofNat_of_lt (by omega)
  simp [Scf.trips, h]

/-- and the loop after it, over what is left, makes no trip. -/
theorem loop2_trips (n : BitVec 32) : (k0_t2_loop n).trips = 0 := by
  show Scf.trips (0#32 + (IntOp.divsi .scalar (n - 0#32) 1#32) * 1#32) (0#32 + (n - 0#32)) 1#32 = 0
  rw [WordArith.divsi_one]
  simp [Scf.trips]

set_option maxRecDepth 16384 in
/-- One trip: candidate `k` switches off the later ones it overlaps, if it is on. -/
theorem step_apply (ob : FVec Ideal S128x128 .f32) (n : BitVec 32) (k : Fin (k0_t1_loop n).trips) (hk : (k : ℕ) < 128)
    (acc : FVec Ideal S1x128 .f32) (l : Fin 128) :
    k0_pay78 (F := Ideal) ob n k acc (ix2 0 l)
      = acc (ix2 0 l) * (1 - if (k : ℕ) < l then ob (ix2 ⟨k, hk⟩ l) * acc (ix2 0 ⟨k, hk⟩) else 0) := by
  pointwise [k0_pay78]
  have hi : Scf.iv 0#32 1#32 (k : ℕ) = BitVec.ofNat 32 k := by simp [Scf.iv]
  have hl := l.isLt
  have he : ∀ x : Fin 128, (IntOp.cmpi CmpIPredicate.eq (BitVec.ofNat 32 ↑x) (BitVec.ofNat 32 ↑k))
      = BitVec.ofBool (decide (x = ⟨k, hk⟩)) := by
    intro x
    have := x.isLt
    rw [WordCmp.cmpi_eq_ofNat (by omega) (by omega)]
    simp [Fin.ext_iff]
  simp only [hi, he, Scalar.select_decide, Finset.sum_ite_eq', Finset.mem_univ, if_true]
  rw [WordCmp.cmpi_sgt_ofNat (by omega) (by omega), Scalar.select_decide]
  simp

/-- What a block's two loops leave of the flags they start from. -/
noncomputable def blockRun (ob : FVec Ideal S128x128 .f32) (kb : FVec Ideal S1x128 .f32) : FVec Ideal S1x128 .f32 :=
  Scf.fold (fun a acc => k0_pay79 (F := Ideal) ob (nsteps ob) a acc)
    (Scf.fold (fun a acc => k0_pay78 (F := Ideal) ob (nsteps ob) a acc) kb)

/-- A block's loops turn the flags "not yet suppressed by the earlier blocks" into "selected". -/
theorem blockRun_apply (o : ℕ → ℕ → Prop) (a : ℕ) (ob : FVec Ideal S128x128 .f32) (kb : FVec Ideal S1x128 .f32)
    (hob : ∀ r l : Fin 128, ob (ix2 r l) = ind (o (a + r) (a + l)))
    (hkb : ∀ l : Fin 128, kb (ix2 0 l) = ind (alive o a (a + l))) (l : Fin 128) :
    blockRun ob kb (ix2 0 l) = ind (kept o (a + l)) := by
  obtain ⟨N, hN, hn, hs⟩ := nsteps_spec ob (fun r l => o (a + r) (a + l)) hob
  have ht := loop_trips (nsteps ob) N hN hn
  have h1 := fold_inv (fun k acc => k0_pay78 (F := Ideal) ob (nsteps ob) k acc) kb
    (fun t acc => ∀ l : Fin 128, acc (ix2 0 l) = ind (alive o (a + t) (a + l))) hkb (by
      intro k acc h l
      have hk : (k : ℕ) < 128 := by have := k.isLt; omega
      rw [step_apply ob _ k hk acc l, h l, h ⟨k, hk⟩, hob]
      have hif : (if (k : ℕ) < l then ind (o (a + k) (a + l)) * ind (alive o (a + k) (a + k)) else 0)
          = ind (a + k < a + l ∧ kept o (a + k) ∧ o (a + k) (a + l)) := by
        by_cases hl : (k : ℕ) < l
        · rw [if_pos hl, ind_mul]
          refine ind_congr ⟨fun ⟨x, y⟩ => ⟨by omega, y, x⟩, fun ⟨_, y, x⟩ => ⟨x, y⟩⟩
        · rw [if_neg hl, ind_false (by omega)]
      show ind _ * (1 - if (k : ℕ) < l then ind (o (a + k) (a + l)) * ind (alive o (a + k) (a + k)) else 0) = _
      rw [hif, one_sub_ind, ind_mul]
      exact ind_congr (alive_succ o (a + k) (a + l)).symm)
  have h1' := fun l => (h1 l).trans (ind_congr (q := alive o (a + N) (a + l)) (by rw [ht]))
  have h2 := fold_inv (fun k acc => k0_pay79 (F := Ideal) ob (nsteps ob) k acc)
    (Scf.fold (fun k acc => k0_pay78 (F := Ideal) ob (nsteps ob) k acc) kb)
    (fun _ acc => ∀ l : Fin 128, acc (ix2 0 l) = ind (alive o (a + N) (a + l))) h1'
    (fun k => absurd k.isLt (by have := loop2_trips (nsteps ob); omega))
  refine (h2 l).trans (ind_congr ?_)
  have hl := l.isLt
  have hi : alive o (a + N + (128 - N)) (a + l) ↔ alive o (a + N) (a + l) := by
    refine alive_idle o (a + N) (a + l) (128 - N) fun m hm hlt ho => ?_
    have := hs ⟨N + m, by omega⟩ l (by show N + m < l; omega) (by rwa [← Nat.add_assoc])
    simp only at this
    omega
  exact hi.symm.trans (alive_final o _ _ (by omega))

/-- The factor a later candidate's flag gets from a block: one when no selected candidate of the block overlaps it. -/
noncomputable def restFactor {w : ℕ} (kb : FVec Ideal S1x128 .f32) (o : FVec Ideal ⟨2, ![128, w]⟩ .f32) (l : Fin w) : EReal :=
  FloatOps.sitofp (F := Ideal) FTy.f32
    (BitVec.setWidth 32
      (BitVec.ofBool (decide (∑ x, kb (ix2 0 x) * o (ix2 x l) < Ideal.ofBits FTy.f32 1056964608#32))))

/-- The rest of the flags after the block. -/
theorem rest_value (o : ℕ → ℕ → Prop) (a w : ℕ) (kb : FVec Ideal S1x128 .f32) (ob : FVec Ideal ⟨2, ![128, w]⟩ .f32) (l : Fin w)
    (z : EReal) (hkb : ∀ k : Fin 128, kb (ix2 0 k) = ind (kept o (a + k)))
    (hob : ∀ (k : Fin 128), ob (ix2 k l) = ind (o (a + k) (a + 128 + l)))
    (hz : z = ind (alive o a (a + 128 + l))) :
    z * restFactor kb ob l = ind (alive o (a + 128) (a + 128 + l)) := by
  unfold restFactor
  rw [sitofp_bit, hz, ind_mul]
  simp only [hkb, hob, sum_ind_lt_half]
  refine ind_congr ⟨fun ⟨h, h'⟩ => (alive_add o _ _ _).2 ⟨h, fun m hm ⟨_, x, y⟩ => h' ⟨m, hm⟩ ⟨x, y⟩⟩, fun h => ?_⟩
  obtain ⟨h, h'⟩ := (alive_add o _ _ _).1 h
  exact ⟨h, fun k ⟨x, y⟩ => h' k k.isLt ⟨by have := k.isLt; omega, x, y⟩⟩

end Cert.KernelIdeal.Gen
-- ==== Proof.TopSel.lean ====
/-
  The stable selection of the greatest entries of a vector, over the extended reals: which positions it returns. Two
  facts are stated: of any vector the returned entries descend, and of a vector of descending scores in which the
  suppressed entries are replaced by the bottom element it returns survivors first, then the suppressed, each in order.
-/
module

public import Idealize.ShloMosaic.PureOps.Ideal.Laws
public import Idealize.ShloMosaic.Lib.SortPrefix
public import Idealize.ShloMosaic.Lib.Pointwise
public import proofs.«01_k».proof.Proof.Nms

@[expose] public section

namespace SegNms

open Idealize.ShloMosaic

/-- Entry `a` is strictly greater than entry `b`. -/
noncomputable def greater {n : ℕ} (x : Fin n → EReal) (a b : Fin n) : Bool := decide (x b < x a)

/-- Entry `a` is greater, or equal and earlier. -/
noncomputable def greaterEarlier {n : ℕ} (x : Fin n → EReal) (a b : Fin n) : Bool :=
  decide (x b < x a) || (decide (x a = x b) && decide (a < b))

/-- Greater first, earlier among equals: a strict total order of the positions. -/
theorem total_greaterEarlier {n : ℕ} (x : Fin n → EReal) : StrictTotalBefore (greaterEarlier x) :=
  StrictTotalBefore.of_key_then_position (fun a b : EReal => decide (b < a)) x
    (fun a => by simp) (fun a b c hab hbc => by
      simp only [decide_eq_true_eq] at hab hbc ⊢; exact lt_trans hbc hab)
    (fun a b => by
      simp only [decide_eq_true_eq]
      rcases lt_trichotomy a b with h | h | h
      · exact Or.inr (Or.inr h)
      · exact Or.inr (Or.inl h)
      · exact Or.inl h)

/-- A stable sort by value alone is the sort by value and then position. -/
theorem stableSort_greater {n : ℕ} (x : Fin n → EReal) : ∀ l : List (Fin n), l.Pairwise (· < ·) →
    stableSort (greater x) l = stableSort (greaterEarlier x) l
  | [], _ => rfl
  | a :: l, h => by
    rw [List.pairwise_cons] at h
    unfold stableSort
    rw [stableSort_greater x l h.2]
    refine insertBefore_congr _ _ a _ fun b hb => ?_
    have hb' := h.1 b ((perm_stableSort _ l).mem_iff.mp hb)
    unfold greater greaterEarlier
    rw [decide_eq_false (not_lt.mpr hb'.le), Bool.and_false, Bool.or_false]

/-- A stable sort by greater values lists the positions in that total order. -/
theorem sortedFrom_greater {n : ℕ} (x : Fin n → EReal) (k : Fin n) :
    sortedFrom (greater x) k = sortedFrom (greaterEarlier x) k := by
  have h : sortPositions n (greater x) = sortPositions n (greaterEarlier x) :=
    stableSort_greater x _ (List.pairwise_lt_finRange n)
  unfold sortedFrom
  rw [List.get_of_eq h]
  rfl

/-- The selection's comparison, on extended reals, is the order of greater values. -/
theorem before_eq {n : ℕ} (x : (⟨1, ![n]⟩ : Shape).Idx → Ideal .f32) (j : (⟨1, ![n]⟩ : Shape).Idx)
    (y : (⟨1, ![n]⟩ : Shape).Idx → BitVec 32) (hd : 0 < (⟨1, ![n]⟩ : Shape).rank) :
    (fun k k' : Fin n =>
      (FloatOps.cmpfTotal (F := Ideal) (φ := .f32) .gt (x (j.along (⟨0, hd⟩ : Fin (⟨1, ![n]⟩ : Shape).rank) k))
        (x (j.along (⟨0, hd⟩ : Fin (⟨1, ![n]⟩ : Shape).rank) k'))) == 1#1)
      = greater fun k => x (ix1 k) := by
  have e : ∀ c : Fin n, j.along (⟨0, hd⟩ : Fin (⟨1, ![n]⟩ : Shape).rank) c = ix1 c := fun c => by
    funext i; match i with | ⟨0, _⟩ => exact Function.update_self ..
  funext k k'
  rw [e, e, Ideal.cmpfTotal_def]
  unfold greater
  show (BitVec.ofBool (decide (x (ix1 k') < x (ix1 k))) == 1#1) = _
  by_cases h : x (ix1 k') < x (ix1 k) <;> simp [h]

/-- The selection read at place `s`: the entry and the position of the sort's place `s`. -/
theorem topK_read {n k : ℕ} (hk : k ≤ n) (x : (⟨1, ![n]⟩ : Shape).Idx → Ideal .f32)
    (h : (⟨1, ![n]⟩ : Shape).Slices (fun _ => 0) ⟨1, ![k]⟩) (s : Fin k) :
    (Host.topK ⟨1, ![k]⟩ 0 (FloatOps.cmpfTotal (F := Ideal) (φ := .f32) .gt) x h).1 (ix1 s)
        = x (ix1 (sortedFrom (greaterEarlier fun a => x (ix1 a)) (s.castLE hk)))
      ∧ (Host.topK ⟨1, ![k]⟩ 0 (FloatOps.cmpfTotal (F := Ideal) (φ := .f32) .gt) x h).2 (ix1 s)
        = BitVec.ofNat 32 (sortedFrom (greaterEarlier fun a => x (ix1 a)) (s.castLE hk)).val := by
  have hd : 0 < (⟨1, ![n]⟩ : Shape).rank := Nat.zero_lt_one
  have e : ∀ (j : (⟨1, ![n]⟩ : Shape).Idx) (c : Fin n),
      j.along (⟨0, hd⟩ : Fin (⟨1, ![n]⟩ : Shape).rank) c = ix1 c := fun j c => by
    funext i; match i with | ⟨0, _⟩ => exact Function.update_self ..
  have hs : ∀ hh : 0 + s.val < n, (⟨0 + s.val, hh⟩ : Fin n) = s.castLE hk := fun hh => Fin.ext (Nat.zero_add _)
  unfold Host.topK Host.sort2
  dsimp only
  rw [dif_pos hd]
  unfold extractStridedSlice
  dsimp only
  have key : ∀ (j : (⟨1, ![n]⟩ : Shape).Idx) (p : Fin n), p = s.castLE hk →
      sortedFrom (fun k k' : Fin n =>
        (FloatOps.cmpfTotal (F := Ideal) (φ := .f32) .gt (x (j.along (⟨0, hd⟩ : Fin (⟨1, ![n]⟩ : Shape).rank) k))
        (x (j.along (⟨0, hd⟩ : Fin (⟨1, ![n]⟩ : Shape).rank) k'))) == 1#1) p
        = sortedFrom (greaterEarlier fun a => x (ix1 a)) (s.castLE hk) := fun j p hp => by
    rw [before_eq x j (fun _ => 0#32) hd, sortedFrom_greater, hp]
  refine ⟨?_, ?_⟩
  · exact (congrArg x (e _ _)).trans (congrArg x (congrArg ix1 (key _ _ (hs _))))
  · rw [dif_pos hd]
    refine (congrArg (fun i => iotaInDim (⟨1, ![n]⟩ : Shape) 32 ⟨0, hd⟩ i) (e _ _)).trans ?_
    exact congrArg (BitVec.ofNat 32) (congrArg Fin.val (key _ _ (hs _)))

/-- The sorted entries descend. -/
theorem sorted_antitone {n : ℕ} (x : Fin n → EReal) {i j : Fin n} (h : i < j) :
    x (sortedFrom (greaterEarlier x) j) ≤ x (sortedFrom (greaterEarlier x) i) := by
  have hB := total_greaterEarlier x
  have := sortedFrom_noInversion (greaterEarlier x) (greaterEarlier x) (fun a b h => hB.asymm a b h) (fun _ _ h => h)
    hB.negTrans i j h
  unfold greaterEarlier at this
  simp only [Bool.or_eq_false_iff, decide_eq_false_iff_not, not_lt] at this
  exact this.1

open Classical in
/-- Of descending scores, none of them the bottom element, with the suppressed ones replaced by the bottom element, the
    sort's place `s` is held by the candidate whose place is `s` when survivors are listed first. -/
theorem sorted_masked {n : ℕ} (v : Fin n → EReal) (hv : ∀ i j, i < j → v j ≤ v i) (hbot : ∀ i, v i ≠ ⊥)
    (keep : ℕ → Prop) (m : Fin n → EReal) (hm : ∀ c : Fin n, m c = if keep c then v c else ⊥) (s : Fin n) :
    slot keep n (sortedFrom (greaterEarlier m) s) = s := by
  obtain ⟨σ, hσ⟩ := exists_slot keep n
  have hB := total_greaterEarlier m
  have hinj : Function.Injective σ := fun a b h => Fin.ext (by rw [← hσ a, ← hσ b, h])
  have e := hB.sortedFrom_eq_of_prefix (le_refl n) σ hinj (fun i j hij => ?_) (fun i p hp => ?_) s
  · rw [show s.castLE (le_refl n) = s from rfl] at e
    rw [e, hσ]
  · have hlt : slot keep n (σ i) < slot keep n (σ j) := by rw [hσ, hσ]; exact hij
    unfold greaterEarlier
    rw [hm, hm]
    rcases slot_lt_cases (σ j).isLt hlt with ⟨ki, kj⟩ | ⟨kij, hlt'⟩
    · rw [if_pos ki, if_neg kj]
      have := hbot (σ i)
      simp [this.symm]
    · have hn : ¬ (σ j < σ i) := not_lt.mpr (le_of_lt hlt')
      by_cases ki : keep (σ i)
      · rw [if_pos ki, if_pos (kij.mp ki)]
        simp [hv _ _ hlt', hn]
      · rw [if_neg ki, if_neg (fun kj => ki (kij.mpr kj))]
        simp [hn]
  · obtain ⟨j, hj⟩ := Finite.injective_iff_surjective.mp hinj p
    exact absurd hj (hp j)

end SegNms
-- ==== Proof.Spec.lean ====
/-
  What both programs compute: the candidates in order of score, the overlaps between them, the kept ones, and the score,
  class and box of each of the hundred output slots.
-/
module

public import proofs.«01_k».proof.Proof.Iou
public import proofs.«01_k».proof.Proof.KStep
public import proofs.«01_k».proof.Proof.TopSel

@[expose] public section

/-! The results, as functions of the flattened class probabilities and the boxes. -/

namespace SegNms

open Idealize.ShloMosaic

/-- Both programs' score of a suppressed candidate. -/
noncomputable abbrev negInf : EReal := Ideal.ofBits .f32 4286578688#32

section spec

variable (pv : FVec Ideal (⟨1, ![80000]⟩ : Shape) .f32) (bx : FVec Ideal (⟨2, ![1000, 4]⟩ : Shape) .f32)

/-- The flat position of candidate `r`, by falling probability. -/
noncomputable def pick (r : Fin 1000) : Fin 80000 :=
  sortedFrom (greaterEarlier fun a => pv (ix1 a)) (r.castLE (by decide))

/-- Its query. -/
noncomputable def query (r : Fin 1000) : Fin 1000 := ⟨(pick pv r : ℕ) / 80, by have := (pick pv r).isLt; omega⟩

/-- Its class. -/
noncomputable def label (r : Fin 1000) : ℕ := (pick pv r : ℕ) % 80

/-- A class number is below 80. -/
theorem label_lt (r : Fin 1000) : label pv r < 80 := Nat.mod_lt _ (by decide)

/-- Its probability. -/
noncomputable def score (r : Fin 1000) : EReal := pv (ix1 (pick pv r))

/-- Its four box coordinates and its class. -/
noncomputable def five (r : Fin 1000) : Fin 5 → EReal := fun k =>
  if h : (k : ℕ) < 4 then bx (ix2 (query pv r) ⟨k, h⟩) else ((label pv r : ℕ) : EReal)

/-- Two candidates overlap too much. -/
def hit (r c : ℕ) : Prop := ∃ (hr : r < 1000) (hc : c < 1000), overlaps (five pv bx ⟨r, hr⟩) (five pv bx ⟨c, hc⟩)

/-- The candidate at place `s`: the selected ones first. -/
noncomputable def seat (s : Fin 1000) : Fin 1000 := (exists_slot (kept (hit pv bx)) 1000).choose s

/-- The candidate seated in slot `s` has slot `s`. -/
theorem seat_slot (s : Fin 1000) : slot (kept (hit pv bx)) 1000 (seat pv bx s) = s :=
  (exists_slot (kept (hit pv bx)) 1000).choose_spec s

/-- The same place in the longer list. -/
def wide (s : Fin 100) : Fin 1000 := s.castLE (by decide)

open Classical in
/-- The first result. -/
noncomputable def outScore (s : Fin 100) : EReal :=
  if cnt (kept (hit pv bx)) 1000 ≤ (s : ℕ) then negInf else score pv (seat pv bx (wide s))

/-- The second result. -/
noncomputable def outLabel (s : Fin 100) : BitVec 32 := BitVec.ofNat 32 (label pv (seat pv bx (wide s)))

/-- The third result. -/
noncomputable def outBox (s : Fin 100) (k : Fin 4) : EReal := bx (ix2 (query pv (seat pv bx (wide s))) k)

/-- The selection only looks at the candidates themselves. -/
theorem kept_hit (o : ℕ → ℕ → Prop)
    (h : ∀ (r c : ℕ) (hr : r < 1000) (hc : c < 1000), o r c ↔ overlaps (five pv bx ⟨r, hr⟩) (five pv bx ⟨c, hc⟩))
    (c : ℕ) (hc : c < 1000) : kept o c ↔ kept (hit pv bx) c :=
  alive_congr (N := 1000) (fun i j hij hj =>
    (h i j (by omega) hj).trans ⟨fun x => ⟨by omega, hj, x⟩, fun ⟨_, _, x⟩ => x⟩) c c hc

end spec

/-- Counting below a bound only looks below it. -/
theorem cnt_congr {p q : ℕ → Prop} (n : ℕ) (h : ∀ c, c < n → (p c ↔ q c)) : cnt p n = cnt q n := by
  unfold cnt
  classical
  induction n with
  | zero => simp [Nat.count_zero]
  | succ n ih =>
    rw [Nat.count_succ, Nat.count_succ, ih fun c hc => h c (by omega)]
    simp only [h n (by omega)]

/-- So do the places. -/
theorem slot_congr {p q : ℕ → Prop} (n : ℕ) (h : ∀ c, c < n → (p c ↔ q c)) (c : ℕ) (hc : c < n) :
    slot p n c = slot q n c := by
  by_cases k : p c
  · rw [slot_kept k, slot_kept ((h c hc).1 k)]
    exact cnt_congr c fun a ha => h a (by omega)
  · rw [slot_dropped k, slot_dropped fun x => k ((h c hc).2 x), cnt_congr n h,
      cnt_congr c fun a ha => not_congr (h a (by omega))]

end SegNms
-- ==== Proof.KHost.lean ====
/-
  The kernel's lines before its call: the probabilities, the selected candidates, their queries, classes and boxes, and the
  two arrays, one the transpose of the other, that the call receives.
-/
module

public import proofs.«01_k».proof.Defs
public import proofs.«01_k».proof.Proof.Spec
public import proofs.«01_k».proof.Proof.Gen.KernelIdeal.Frame
public import Idealize.ShloMosaic.Lib.StableHlo.ReadAt
public import Idealize.ShloMosaic.Lib.Pointwise
public import Idealize.ShloMosaic.Lib.Routing.Ops
public import Idealize.ShloMosaic.Lib.Routing.OpsPair
public import Idealize.ShloMosaic.Lib.Routing.Words

@[expose] public section

noncomputable section

namespace Cert.KernelIdeal.Gen

open Idealize.ShloMosaic Idealize.ShloMosaic.TcCoe SegNms

/-- The class probabilities, flattened. -/
def probs (x : FVec Ideal S1000x81 .f32) : FVec Ideal S80000 .f32 :=
  shapeCast S80000
    (Host.divf (broadcastInDim S1000x80 ![] bcast_S_S1000x80 (constant S_ .f32 0x3F800000#32 : FVec Ideal S_ .f32))
      (addf (broadcastInDim S1000x80 ![] bcast_S_S1000x80 (constant S_ .f32 0x3F800000#32 : FVec Ideal S_ .f32))
        (Host.exp (Host.negf (extractStridedSlice S1000x80 ![0, 0] x slices_S1000x81_S1000x80_0_0)))))
    shapeCasts_S1000x80_S80000

/-- The candidates' rows padded with zeros: four corners, label, score, two zeros. -/
def packed (boxes : FVec Ideal S1000x4 .f32) (labels scores : FVec Ideal S1000 .f32) : FVec Ideal S1024x8 .f32 :=
  concatenate S1024x8 1
    [⟨S1024x4, concatenate S1024x4 0 [⟨S1000x4, boxes⟩, ⟨S24x4, broadcastInDim S24x4 ![] bcast_S_S24x4 (constant S_ .f32 0x00000000#32 : FVec Ideal S_ .f32)⟩]
        concatenates_S1000x4_S24x4_S1024x4_d0⟩,
     ⟨S1024x1, broadcastInDim S1024x1 ![0] bcast_S1024_S1024x1_0
        (concatenate S1024 0 [⟨S1000, labels⟩, ⟨S24, broadcastInDim S24 ![] bcast_S_S24 (constant S_ .f32 0x00000000#32 : FVec Ideal S_ .f32)⟩]
          concatenates_S1000_S24_S1024_d0)⟩,
     ⟨S1024x1, broadcastInDim S1024x1 ![0] bcast_S1024_S1024x1_0
        (concatenate S1024 0 [⟨S1000, scores⟩, ⟨S24, broadcastInDim S24 ![] bcast_S_S24 (constant S_ .f32 0x00000000#32 : FVec Ideal S_ .f32)⟩]
          concatenates_S1000_S24_S1024_d0)⟩,
     ⟨S1024x2, broadcastInDim S1024x2 ![] bcast_S_S1024x2 (constant S_ .f32 0x00000000#32 : FVec Ideal S_ .f32)⟩]
    concatenates_S1024x4_S1024x1_S1024x1_S1024x2_S1024x8_d1

/-- A number below zero counts from the end. -/
def wrapQ (q : IVec S1000 32) : IVec S1000x1 32 :=
  broadcastInDim S1000x1 ![0] bcast_S1000_S1000x1_0
    (select (cmpi .slt q (broadcastInDim S1000 ![] bcast_S_S1000 (constantI S_ 32 0#32)))
      (addi q (broadcastInDim S1000 ![] bcast_S_S1000 (constantI S_ 32 1000#32))) q)

/-! ## The lines before the launch, one stretch at a time -/

section lines

variable (U : Valuation τ sig (Elt Ideal))

/-- The second input of the body. -/
theorem v27_eq :
    StableHlo.after hostOps0_4 U (Proc.devRef .tc main_v27) =
      packed (Host.gather gather_S1000x4_S1000x1_S1000x4_1_0_n_n_0_1_14 (U (Proc.devRef .tc main_arg1)) (wrapQ (U (Proc.devRef .tc main_v8))))
        (sitofp .f32 (U (Proc.devRef .tc main_v9) : IVec S1000 32)) (U (Proc.devRef .tc main_values)) := by
  unfold hostOps0_4
  after_results
  rfl

/-- The first input of the body is its transpose. -/
theorem v28_eq :
    StableHlo.after hostOps0_4 U (Proc.devRef .tc main_v28) =
      transpose S8x1024 [1, 0] (StableHlo.after hostOps0_4 U (Proc.devRef .tc main_v27) : FVec Ideal S1024x8 .f32) transposes_S1024x8_S8x1024_1_0 := by
  rw [v27_eq]
  unfold hostOps0_4
  after_results
  rfl

/-- The first selection. -/
theorem values_eq : StableHlo.after hostOps0 U (Proc.devRef .tc main_values) =
    (Host.topK S1000 0 (FloatOps.cmpfTotal .gt) (probs (U (Proc.devRef .tc main_arg0))) sliceFits_S80000_S1000).1 := by
  unfold hostOps0
  after_results
  rfl

/-- Its positions. -/
theorem indices_eq : StableHlo.after hostOps0 U (Proc.devRef .tc main_indices) =
    (Host.topK S1000 0 (FloatOps.cmpfTotal .gt) (probs (U (Proc.devRef .tc main_arg0))) sliceFits_S80000_S1000).2 := by
  unfold hostOps0
  after_results
  rfl

/-- The first divisor. -/
theorem c_eq : (StableHlo.after hostOps0 U (Proc.devRef .tc main_c) : IVec S_ 32) ix0 = 80#32 := by
  unfold hostOps0
  after_reads_at

/-- The second divisor. -/
theorem c1_eq : (StableHlo.after hostOps0_2 U (Proc.devRef .tc main_c_1) : IVec S_ 32) ix0 = 80#32 := by
  unfold hostOps0_2
  after_reads_at

/-- A word that holds a number below `2 ^ 31` is not negative. -/
theorem msb_small {a : ℕ} (ha : a < 2 ^ 31) : (BitVec.ofNat 32 a).msb = false := by
  rw [BitVec.msb_eq_decide]
  simp only [BitVec.toNat_ofNat]
  rw [Nat.mod_eq_of_lt (by omega)]
  simp only [decide_eq_false_iff_not]; omega

/-- The quotient. -/
theorem v8_eq (r : Fin 1000) (a : ℕ) (ha : a < 80000) (hx : (U (Proc.devRef .tc main_indices) : IVec S1000 32) (ix1 r) = BitVec.ofNat 32 a)
    (hc : (U (Proc.devRef .tc main_c) : IVec S_ 32) ix0 = BitVec.ofNat 32 80) :
    (StableHlo.after hostOps0_1 U (Proc.devRef .tc main_v8) : IVec S1000 32) (ix1 r) = BitVec.ofNat 32 (a / 80) := by
  unfold hostOps0_1
  after_reads_at
  simp only [id, hx, hc]
  rw [Routing.remsi_word .host (by omega) (by decide) (by decide), Routing.divsi_word .host (by omega) (by decide) (by decide),
    msb_small (by omega), msb_small (a := 80) (by decide)]
  rcases Nat.eq_zero_or_pos a with h | h
  · subst h; rfl
  · rw [if_neg (fun e => by
      have := congrArg BitVec.toNat e
      simp only [BitVec.toNat_ofNat] at this
      rw [Nat.mod_eq_of_lt (by omega)] at this
      simp at this; omega)]
    simp only [Bool.false_eq_true, if_false]
    rw [show IntOp.cmpi CmpIPredicate.ne (1 : BitVec 32) (if BitVec.ofNat 32 80 = 0 then 0 else 1) = 0#1 by decide]
    rw [show ∀ x : BitVec 1, IntOp.andi 0#1 x = 0#1 by decide]
    rfl

/-- The remainder. -/
theorem v9_eq (r : Fin 1000) (a : ℕ) (ha : a < 80000) (hx : (U (Proc.devRef .tc main_indices) : IVec S1000 32) (ix1 r) = BitVec.ofNat 32 a)
    (hc : (U (Proc.devRef .tc main_c_1) : IVec S_ 32) ix0 = BitVec.ofNat 32 80) :
    (StableHlo.after hostOps0_3 U (Proc.devRef .tc main_v9) : IVec S1000 32) (ix1 r) = BitVec.ofNat 32 (a % 80) := by
  unfold hostOps0_3
  after_reads_at
  simp only [id, hx, hc]
  rw [show Scalar.select (IntOp.cmpi CmpIPredicate.eq (BitVec.ofNat 32 80) 0#32) (1#32) (BitVec.ofNat 32 80) = BitVec.ofNat 32 80 by decide]
  rw [Routing.remsi_word .host (by omega) (by decide) (by decide)]
  rw [show IntOp.cmpi CmpIPredicate.slt (BitVec.ofNat 32 80) 0#32 = 0#1 by decide,
    show (0#32 : BitVec 32) = BitVec.ofNat 32 0 from rfl, WordCmp.cmpi_slt_ofNat (by omega) (by omega),
    decide_eq_false (Nat.not_lt_zero _)]
  rw [show IntOp.cmpi CmpIPredicate.ne (BitVec.ofBool false) 0#1 = 0#1 by decide,
    show ∀ x : BitVec 1, IntOp.andi 0#1 x = 0#1 by decide]
  rfl

end lines

set_option maxRecDepth 16384 in
/-- The padded table at an entry. -/
theorem packed_at (boxes : FVec Ideal S1000x4 .f32) (labels scores : FVec Ideal S1000 .f32) (r : Fin 1024) (j : Fin 8) :
    packed boxes labels scores (ix2 r j) =
     (if h : (j : ℕ) < 4 then if h_1 : (r : ℕ) < 1000 then boxes (ix2 ⟨r, h_1⟩ ⟨j, h⟩) else 0
    else
      if (j : ℕ) - 4 < 1 then if h : (r : ℕ) < 1000 then labels (ix1 ⟨r, h⟩) else 0
      else if (j : ℕ) - 4 - 1 < 1 then if h : (r : ℕ) < 1000 then scores (ix1 ⟨r, h⟩) else 0 else 0) := by
  pointwise [packed]
  rfl

end Cert.KernelIdeal.Gen
-- ==== Proof.KPos.lean ====
/-
  The output slot the body gives each candidate: a selected one comes after the selected ones before it, one that is not
  after all the selected ones and the others before it; the padding gets a slot no output has.
-/
module

public import Idealize.ShloMosaic.Lib.Pointwise
public import Idealize.ShloMosaic.Lib.WordCmp
public import proofs.«01_k».proof.Defs
public import proofs.«01_k».proof.Proof.KStep

@[expose] public section

namespace SegNms

open Idealize.ShloMosaic

/-- The slot of the padding. -/
noncomputable abbrev padW : EReal := Ideal.ofBits .f32 1161527296#32

/-- It is three thousand. -/
theorem padW_eq : padW = ((3000 : ℕ) : EReal) := by
  simp [padW, Ideal.ofBits, Ideal.ieee, -EReal.coe_mul]; norm_num; rfl

/-- A number's word converted is the number. -/
theorem sitofp_nat (n : ℕ) (h : n < 2 ^ 31) : FloatOps.sitofp (F := Ideal) .f32 (BitVec.ofNat 32 n) = (n : EReal) := by
  show (((BitVec.ofNat 32 n).toInt : ℝ) : EReal) = _
  rw [WordCmp.toInt_ofNat_of_lt h]
  simp

/-- A comparison of two numbers' words as a number. -/
theorem sitofp_slt (a b : ℕ) (ha : a < 2 ^ 31) (hb : b < 2 ^ 31) :
    FloatOps.sitofp (F := Ideal) .f32
      (BitVec.setWidth 32 (IntOp.cmpi CmpIPredicate.slt (BitVec.ofNat 32 a) (BitVec.ofNat 32 b))) = ind (a < b) := by
  rw [WordCmp.cmpi_slt_ofNat (by omega) (by omega), sitofp_bit]

/-- The slot of a candidate or of the padding. -/
noncomputable def posN (keep : ℕ → Prop) (c : ℕ) : EReal :=
  open Classical in if c < 1000 then ((slot keep 1000 c : ℕ) : EReal) else padW

/-- The candidates before `c` with a property, counted over the padded length. -/
theorem sum_ind_lt (q : ℕ → Prop) (c : ℕ) (hc : c ≤ 1024) :
    ∑ k : Fin 1024, ind (q k ∧ (k : ℕ) < c) = ((cnt q c : ℕ) : EReal) := by
  rw [sum_ind, ← card_lt_count q 1024 c hc]
  congr!

/-- The selected candidates, counted over the padded length. -/
theorem total_sum (keep : ℕ → Prop) :
    ∑ k : Fin 1024, ind (keep k) * ind ((k : ℕ) < 1000) = ((cnt keep 1000 : ℕ) : EReal) := by
  simp only [ind_mul]
  exact sum_ind_lt keep 1000 (by omega)

/-- The same among the candidates that are no padding. -/
theorem before_sum (keep : ℕ → Prop) (c : ℕ) (hc : c ≤ 1000) :
    ∑ k : Fin 1024, ind (keep k) * ind ((k : ℕ) < 1000) * ind ((k : ℕ) < c) = ((cnt keep c : ℕ) : EReal) := by
  simp only [ind_mul]
  rw [← sum_ind_lt keep c (by omega)]
  exact Finset.sum_congr rfl fun k _ => ind_congr ⟨fun ⟨⟨x, _⟩, z⟩ => ⟨x, z⟩, fun ⟨x, z⟩ => ⟨⟨x, by omega⟩, z⟩⟩

/-- What the body computes for candidate `c`, whose number is the word `w`. -/
theorem pos_value (keep : ℕ → Prop) (K : Fin 1024 → EReal) (hK : ∀ c, K c = ind (keep c)) (c : ℕ) (hc : c < 1024)
    (w : BitVec 32) (hw : w = BitVec.ofNat 32 c) :
    (if Ideal.ofBits FTy.f32 1056964608#32 <
          FloatOps.sitofp (F := Ideal) FTy.f32 (BitVec.setWidth 32 (IntOp.cmpi CmpIPredicate.slt (BitVec.ofNat 32 c) 1000#32)) then
      if Ideal.ofBits FTy.f32 1056964608#32 < K ⟨c, hc⟩ then
        ∑ x : Fin 1024, K x *
              FloatOps.sitofp (F := Ideal) FTy.f32 (BitVec.setWidth 32 (IntOp.cmpi CmpIPredicate.slt (BitVec.ofNat 32 ↑x) 1000#32)) *
            FloatOps.sitofp (F := Ideal) FTy.f32 (BitVec.setWidth 32 (IntOp.cmpi CmpIPredicate.slt (BitVec.ofNat 32 ↑x) w))
      else
        ∑ _x : Fin 1, ∑ x : Fin 1024, K x *
                FloatOps.sitofp (F := Ideal) FTy.f32 (BitVec.setWidth 32 (IntOp.cmpi CmpIPredicate.slt (BitVec.ofNat 32 ↑x) 1000#32)) +
          ∑ x : Fin 1024, (1 - K x) *
                FloatOps.sitofp (F := Ideal) FTy.f32 (BitVec.setWidth 32 (IntOp.cmpi CmpIPredicate.slt (BitVec.ofNat 32 ↑x) 1000#32)) *
              FloatOps.sitofp (F := Ideal) FTy.f32 (BitVec.setWidth 32 (IntOp.cmpi CmpIPredicate.slt (BitVec.ofNat 32 ↑x) w))
    else Ideal.ofBits FTy.f32 1161527296#32) = posN keep c := by
  have hx : ∀ x : Fin 1024, ((x : ℕ) < 2 ^ 31) := fun x => by have := x.isLt; omega
  subst hw
  have h1 : ∀ x : Fin 1024, FloatOps.sitofp (F := Ideal) .f32
      (BitVec.setWidth 32 (IntOp.cmpi CmpIPredicate.slt (BitVec.ofNat 32 x) 1000#32)) = ind ((x : ℕ) < 1000) :=
    fun x => sitofp_slt x 1000 (hx x) (by omega)
  have h2 : ∀ x : Fin 1024, FloatOps.sitofp (F := Ideal) .f32
      (BitVec.setWidth 32 (IntOp.cmpi CmpIPredicate.slt (BitVec.ofNat 32 x) (BitVec.ofNat 32 c))) = ind ((x : ℕ) < c) :=
    fun x => sitofp_slt x c (hx x) (by omega)
  have h3 := h1 ⟨c, hc⟩
  simp only at h3
  unfold posN
  simp only [h1, h2, h3, hK, half_lt_ind, one_sub_ind]
  by_cases hv : c < 1000
  · rw [if_pos hv, if_pos hv]
    have hk' : Ideal.ofBits FTy.f32 1056964608#32 < K ⟨c, hc⟩ ↔ keep c := by rw [hK]; exact half_lt_ind _
    by_cases hk : keep c
    · rw [if_pos (hk'.2 hk), before_sum keep c (by omega), slot_kept hk]
    · rw [if_neg fun h => hk (hk'.1 h)]
      simp only [total_sum]
      rw [before_sum (fun k => ¬keep k) c (by omega), slot_dropped hk]
      simp
  · rw [if_neg hv, if_neg hv]

end SegNms
-- ==== Proof.KKeep.lean ====
/-
  The eight blocks in turn: after block `b` the flags hold "selected" for the candidates of the first `b` blocks and
  "not suppressed by those blocks" for the rest, so after the last block they hold the greedy selection.
-/
module

public import Idealize.ShloMosaic.Lib.Pointwise
public import proofs.«01_k».proof.Defs
public import proofs.«01_k».proof.Proof.KStep

@[expose] public section

namespace Cert.KernelIdeal.Gen

open Idealize.ShloMosaic SegNms

/-- Candidate `r` overlaps candidate `c`, as a relation on numbers. -/
def ov (x0 : FVec Ideal S8x1024 .f32) (x1 : FVec Ideal S1024x8 .f32) (r c : ℕ) : Prop :=
  ∃ (hr : r < 1024) (hc : c < 1024), overlaps (rowOf x1 ⟨r, hr⟩) (colOf x0 ⟨c, hc⟩)

/-- A list of writes of the flags. -/
abbrev Flags := List (View.Piece (Elt Ideal) S1x1024 EltTy.f32)
/-- A list of writes of the overlap table. -/
abbrev Table := List (View.Piece (Elt Ideal) S1024x1024 EltTy.f32)

/-- The flags hold who is not suppressed by the candidates before `a`. -/
def Inv (o : ℕ → ℕ → Prop) (a : ℕ) (L : Flags) : Prop :=
  ∀ c : Fin 1024, View.canon L (ix2 0 c) = ind (alive o a c)

/-- A read of a stretch of the flags. -/
theorem readCov_flags (v : View sig .tc .vmem S1x1024 .f32) (L : Flags) (a w : ℕ)
    (h : ∀ k, (![0, a] : Fin 2 → ℕ) k + (⟨2, ![1, w]⟩ : Shape).size k ≤ S1x1024.size k) (l : Fin w) (hl : a + (l : ℕ) < 1024) :
    v.readCov L (Rect.unit (s := S1x1024) ![0, a] (⟨2, ![1, w]⟩ : Shape).size h).toLoadRect (ix2 0 l)
      = View.canon L (ix2 0 ⟨a + l, hl⟩) := by
  rw [View.readCov_eq_canon']
  refine congrArg (View.canon L) (funext fun z => Fin.ext ?_)
  fin_cases z
  · rfl
  · show a + 1 * (l : ℕ) = a + l; omega

/-- A read of a block of the overlap table. -/
theorem readCov_table (v : View sig .tc .vmem S1024x1024 .f32) (T : Table) (x0 : FVec Ideal S8x1024 .f32)
    (x1 : FVec Ideal S1024x8 .f32) (hT : ∀ y, View.canon T y = table x0 x1 y) (a b w : ℕ)
    (h : ∀ k, (![a, b] : Fin 2 → ℕ) k + (⟨2, ![128, w]⟩ : Shape).size k ≤ S1024x1024.size k) (r : Fin 128) (l : Fin w)
    (hr : a + (r : ℕ) < 1024) (hl : b + (l : ℕ) < 1024) :
    v.readCov T (Rect.unit (s := S1024x1024) ![a, b] (⟨2, ![128, w]⟩ : Shape).size h).toLoadRect (ix2 r l)
      = ind (ov x0 x1 (a + r) (b + l)) := by
  rw [View.readCov_eq_canon']
  refine (hT _).trans ?_
  have e : (Rect.unit (s := S1024x1024) ![a, b] (⟨2, ![128, w]⟩ : Shape).size h).toLoadRect.idx (ix2 r l)
      = ix2 (⟨a + r, hr⟩ : Fin 1024) (⟨b + l, hl⟩ : Fin 1024) := by
    refine funext fun z => Fin.ext ?_
    fin_cases z
    · show a + 1 * (r : ℕ) = a + r; omega
    · show b + 1 * (l : ℕ) = b + l; omega
  rw [e]
  exact ind_congr ⟨fun h => ⟨hr, hl, h⟩, fun ⟨_, _, h⟩ => h⟩

/-- The flags under the last write, -/
theorem flags_hit (L : Flags) (a w : ℕ)
    (h : ∀ k, (![0, a] : Fin 2 → ℕ) k + (⟨2, ![1, w]⟩ : Shape).size k ≤ S1x1024.size k) (p : FVec Ideal ⟨2, ![1, w]⟩ .f32)
    (c : Fin 1024) (h1 : a ≤ c) (h2 : (c : ℕ) < a + w) :
    View.canon ((⟨Rect.unit (s := S1x1024) ![0, a] (⟨2, ![1, w]⟩ : Shape).size h, p⟩ :
      View.Piece (Elt Ideal) S1x1024 EltTy.f32) :: L) (ix2 0 c) = p (ix2 0 ⟨c - a, by omega⟩) := by
  have e : (ix2 0 c : S1x1024.Idx) = (Rect.unit (s := S1x1024) ![0, a] (⟨2, ![1, w]⟩ : Shape).size h).emb
      (ix2 (0 : Fin 1) (⟨c - a, by omega⟩ : Fin w)) := by
    refine funext fun z => Fin.ext ?_
    fin_cases z
    · rfl
    · show (c : ℕ) = a + 1 * (c - a); omega
  rw [e]
  exact View.canon_cons_emb (Val := Elt Ideal) (e := .f32)
    (Rect.unit (s := S1x1024) ![0, a] (⟨2, ![1, w]⟩ : Shape).size h) p L _

/-- and off it. -/
theorem flags_miss (L : Flags) (a w : ℕ)
    (h : ∀ k, (![0, a] : Fin 2 → ℕ) k + (⟨2, ![1, w]⟩ : Shape).size k ≤ S1x1024.size k) (p : FVec Ideal ⟨2, ![1, w]⟩ .f32)
    (c : Fin 1024) (hc : (c : ℕ) < a ∨ a + w ≤ c) :
    View.canon ((⟨Rect.unit (s := S1x1024) ![0, a] (⟨2, ![1, w]⟩ : Shape).size h, p⟩ :
      View.Piece (Elt Ideal) S1x1024 EltTy.f32) :: L) (ix2 0 c) = View.canon L (ix2 0 c) := by
  refine View.canon_cons_of_not_mem _ L fun hm => ?_
  have h1 := (Rect.mem_set_unit (inb := h).1 hm) 1
  have h2 : a ≤ (c : ℕ) ∧ (c : ℕ) < a + w := h1
  omega

section block

variable (x0 : FVec Ideal S8x1024 .f32) (x1 : FVec Ideal S1024x8 .f32)
  (v3 : View sig .tc .vmem S1024x1024 .f32) (v4 : View sig .tc .vmem S1x1024 .f32)
  (T : Table) (hT : ∀ y, View.canon T y = table x0 x1 y) (L : Flags) (a : ℕ)
  (hT1 : ∀ k, (![a, a] : Fin 2 → ℕ) k + S128x128.size k ≤ S1024x1024.size k)
  (hL1 : ∀ k, (![0, a] : Fin 2 → ℕ) k + S1x128.size k ≤ S1x1024.size k)

/-- What the block at `a` computes of the table and of the flags before it. -/
noncomputable def blockAt : FVec Ideal S1x128 .f32 :=
  blockRun (v3.readCov T (Rect.unit (s := S1024x1024) ![a, a] S128x128.size hT1).toLoadRect)
    (v4.readCov L (Rect.unit (s := S1x1024) ![0, a] S1x128.size hL1).toLoadRect)

/-- The flags with the block's own stretch written. -/
noncomputable def keepAt : Flags :=
  ⟨Rect.unit (s := S1x1024) ![0, a] S1x128.size hL1, k0_pay80 (F := Ideal) (blockAt v3 v4 T L a hT1 hL1)⟩ :: L

include hT in
/-- The block's own stretch is selected. -/
theorem blockAt_apply (hL : Inv (ov x0 x1) a L) (ha : a + 128 ≤ 1024) (l : Fin 128) :
    blockAt v3 v4 T L a hT1 hL1 (ix2 0 l) = ind (kept (ov x0 x1) (a + l)) :=
  blockRun_apply (ov x0 x1) a _ _
    (fun r l => readCov_table v3 T x0 x1 hT a a 128 hT1 r l (by have := r.isLt; omega) (by have := l.isLt; omega))
    (fun l => (readCov_flags v4 L a 128 hL1 l (by have := l.isLt; omega)).trans (hL _)) l

include hT in
/-- Up to the block's end the flags hold the selection. -/
theorem keepAt_low (hL : Inv (ov x0 x1) a L) (ha : a + 128 ≤ 1024) (c : Fin 1024) (hc : (c : ℕ) < a + 128) :
    View.canon (keepAt v3 v4 T L a hT1 hL1) (ix2 0 c) = ind (kept (ov x0 x1) c) := by
  by_cases h : (c : ℕ) < a
  · exact (flags_miss L a 128 hL1 _ c (.inl h)).trans ((hL c).trans (ind_congr (alive_final _ _ _ (by omega))))
  · refine (flags_hit L a 128 hL1 _ c (by omega) hc).trans ?_
    unfold k0_pay80
    rw [shapeCast_self]
    refine (blockAt_apply x0 x1 v3 v4 T hT L a hT1 hL1 hL ha _).trans (ind_congr ?_)
    show kept (ov x0 x1) (a + ((c : ℕ) - a)) ↔ _
    rw [Nat.add_sub_cancel' (by omega)]

/-- Past it they are as before. -/
theorem keepAt_high (c : Fin 1024) (hc : a + 128 ≤ (c : ℕ)) :
    View.canon (keepAt v3 v4 T L a hT1 hL1) (ix2 0 c) = View.canon L (ix2 0 c) :=
  flags_miss L a 128 hL1 _ c (.inr hc)

include hT in
/-- One block's step: with the rest of the flags written too, they hold who is not suppressed by the candidates before
    the block's end. -/
theorem block_step (a' w : ℕ) (ha' : a' = a + 128) (hw : a' + w = 1024) (hL : Inv (ov x0 x1) a L)
    (pay : FVec Ideal S1x128 .f32 → FVec Ideal ⟨2, ![128, w]⟩ .f32 → FVec Ideal ⟨2, ![1, w]⟩ .f32 → FVec Ideal ⟨2, ![1, w]⟩ .f32)
    (hpay : ∀ kb o kr l, pay kb o kr (ix2 0 l) = kr (ix2 0 l) * restFactor kb o l)
    (hT2 : ∀ k, (![a, a'] : Fin 2 → ℕ) k + (⟨2, ![128, w]⟩ : Shape).size k ≤ S1024x1024.size k)
    (hL2 : ∀ k, (![0, a'] : Fin 2 → ℕ) k + (⟨2, ![1, w]⟩ : Shape).size k ≤ S1x1024.size k) :
    Inv (ov x0 x1) a' (⟨Rect.unit (s := S1x1024) ![0, a'] (⟨2, ![1, w]⟩ : Shape).size hL2,
      pay (blockAt v3 v4 T L a hT1 hL1)
        (v3.readCov T (Rect.unit (s := S1024x1024) ![a, a'] (⟨2, ![128, w]⟩ : Shape).size hT2).toLoadRect)
        (v4.readCov (keepAt v3 v4 T L a hT1 hL1) (Rect.unit (s := S1x1024) ![0, a'] (⟨2, ![1, w]⟩ : Shape).size hL2).toLoadRect)⟩
      :: keepAt v3 v4 T L a hT1 hL1) := by
  subst ha'
  intro c
  by_cases h : (c : ℕ) < a + 128
  · exact (flags_miss _ (a + 128) w hL2 _ c (.inl h)).trans
      ((keepAt_low x0 x1 v3 v4 T hT L a hT1 hL1 hL (by omega) c h).trans (ind_congr (alive_final _ _ _ (by omega)).symm))
  · have hc := c.isLt
    refine (flags_hit _ (a + 128) w hL2 _ c (by omega) (by omega)).trans ?_
    rw [hpay]
    have e : a + 128 + ((⟨c - (a + 128), by omega⟩ : Fin w) : ℕ) = c := by
      show a + 128 + (c - (a + 128)) = (c : ℕ); omega
    refine (rest_value (ov x0 x1) a w _ _ _ _
      (fun k => blockAt_apply x0 x1 v3 v4 T hT L a hT1 hL1 hL (by omega) k)
      (fun k => readCov_table v3 T x0 x1 hT a (a + 128) w hT2 k _ (by have := k.isLt; omega) (by omega))
      ((readCov_flags v4 _ (a + 128) w hL2 _ (by omega)).trans
        ((keepAt_high v3 v4 T L a hT1 hL1 _ (by show a + 128 ≤ a + 128 + _; omega)).trans (hL _)))).trans ?_
    rw [e]

end block

end Cert.KernelIdeal.Gen
-- ==== Proof.KChain.lean ====
/-
  The body's flags, block by block: each of the writes the body makes is the general step's, at the block's place.
-/
module

public import Idealize.ShloMosaic.Lib.Pointwise
public import proofs.«01_k».proof.Defs
public import proofs.«01_k».proof.Proof.KKeep

@[expose] public section

namespace Cert.KernelIdeal.Gen

open Idealize.ShloMosaic SegNms

set_option maxRecDepth 16384 in
/-- The rest of the flags after block 0, at an index. -/
theorem rest0_apply (kb : FVec Ideal S1x128 .f32) (o : FVec Ideal S128x896 .f32) (kr : FVec Ideal S1x896 .f32) (l : Fin 896) :
    k0_pay81 (F := Ideal) kb o kr (ix2 0 l) = kr (ix2 0 l) * restFactor kb o l := by
  pointwise [k0_pay81]
  rfl

set_option maxRecDepth 16384 in
/-- The rest of the flags after block 1, at an index. -/
theorem rest1_apply (kb : FVec Ideal S1x128 .f32) (o : FVec Ideal S128x768 .f32) (kr : FVec Ideal S1x768 .f32) (l : Fin 768) :
    k0_pay86 (F := Ideal) kb o kr (ix2 0 l) = kr (ix2 0 l) * restFactor kb o l := by
  pointwise [k0_pay86]
  rfl

set_option maxRecDepth 16384 in
/-- The rest of the flags after block 2, at an index. -/
theorem rest2_apply (kb : FVec Ideal S1x128 .f32) (o : FVec Ideal S128x640 .f32) (kr : FVec Ideal S1x640 .f32) (l : Fin 640) :
    k0_pay91 (F := Ideal) kb o kr (ix2 0 l) = kr (ix2 0 l) * restFactor kb o l := by
  pointwise [k0_pay91]
  rfl

set_option maxRecDepth 16384 in
/-- The rest of the flags after block 3, at an index. -/
theorem rest3_apply (kb : FVec Ideal S1x128 .f32) (o : FVec Ideal S128x512 .f32) (kr : FVec Ideal S1x512 .f32) (l : Fin 512) :
    k0_pay96 (F := Ideal) kb o kr (ix2 0 l) = kr (ix2 0 l) * restFactor kb o l := by
  pointwise [k0_pay96]
  rfl

set_option maxRecDepth 16384 in
/-- The rest of the flags after block 4, at an index. -/
theorem rest4_apply (kb : FVec Ideal S1x128 .f32) (o : FVec Ideal S128x384 .f32) (kr : FVec Ideal S1x384 .f32) (l : Fin 384) :
    k0_pay101 (F := Ideal) kb o kr (ix2 0 l) = kr (ix2 0 l) * restFactor kb o l := by
  pointwise [k0_pay101]
  rfl

set_option maxRecDepth 16384 in
/-- The rest of the flags after block 5, at an index. -/
theorem rest5_apply (kb : FVec Ideal S1x128 .f32) (o : FVec Ideal S128x256 .f32) (kr : FVec Ideal S1x256 .f32) (l : Fin 256) :
    k0_pay106 (F := Ideal) kb o kr (ix2 0 l) = kr (ix2 0 l) * restFactor kb o l := by
  pointwise [k0_pay106]
  rfl

set_option maxRecDepth 16384 in
/-- The rest of the flags after block 6, at an index. -/
theorem rest6_apply (kb : FVec Ideal S1x128 .f32) (o : FVec Ideal S128x128 .f32) (kr : FVec Ideal S1x128 .f32) (l : Fin 128) :
    k0_pay111 (F := Ideal) kb o kr (ix2 0 l) = kr (ix2 0 l) * restFactor kb o l := by
  pointwise [k0_pay111]
  rfl

section chain

variable (c : Dev nD) (arg0 : Memref sig .tc .vmem S8x1024 .f32) (harg0 : arg0.IsWhole)
  (arg1 : Memref sig .tc .vmem S1024x8 .f32) (harg1 : arg1.IsWhole)
  (arg3 : Memref sig .tc .vmem S1024x1024 .f32) (arg4 : Memref sig .tc .vmem S1x1024 .f32)
  (x0 : FVec Ideal S8x1024 .f32) (x1 : FVec Ideal S1024x8 .f32)

/-- Before the first block nobody is suppressed. -/
theorem inv0 (o : ℕ → ℕ → Prop) : Inv o 0 (kernelRun0_A.sl.HS1_1 (F := Ideal)) := by
  intro k
  refine (flags_hit [] 0 1024 inb_S1x1024_S1x1024_0_0 (k0_pay76 (F := Ideal)) k (Nat.zero_le _) (by have := k.isLt; omega)).trans ?_
  rw [ind_true (alive_zero o k)]
  pointwise [k0_pay76]

/-- After block 0. -/
theorem inv1 : Inv (ov x0 x1) 128 (kernelRun0_A.sl.HS1_3 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_1 (F := Ideal)) 0
    inb_S1024x1024_S128x128_0_0 inb_S1x1024_S1x128_0_0 128 896 rfl rfl (inv0 _)
    (k0_pay81 (F := Ideal)) rest0_apply inb_S1024x1024_S128x896_0_128 inb_S1x1024_S1x896_0_128

/-- After block 1. -/
theorem inv2 : Inv (ov x0 x1) 256 (kernelRun0_A.sl.HS1_5 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_3 (F := Ideal) c arg0 harg0 arg1 harg1 arg3 arg4 x0 x1) 128
    inb_S1024x1024_S128x128_128_128 inb_S1x1024_S1x128_0_128 256 768 rfl rfl (inv1 c arg0 harg0 arg1 harg1 arg3 arg4 x0 x1)
    (k0_pay86 (F := Ideal)) rest1_apply inb_S1024x1024_S128x768_128_256 inb_S1x1024_S1x768_0_256

/-- After block 2. -/
theorem inv3 : Inv (ov x0 x1) 384 (kernelRun0_A.sl.HS1_7 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_5 (F := Ideal) c arg0 harg0 arg1 harg1 arg3 arg4 x0 x1) 256
    inb_S1024x1024_S128x128_256_256 inb_S1x1024_S1x128_0_256 384 640 rfl rfl (inv2 c arg0 harg0 arg1 harg1 arg3 arg4 x0 x1)
    (k0_pay91 (F := Ideal)) rest2_apply inb_S1024x1024_S128x640_256_384 inb_S1x1024_S1x640_0_384

/-- After block 3. -/
theorem inv4 : Inv (ov x0 x1) 512 (kernelRun0_A.sl.HS1_9 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_7 (F := Ideal) c arg0 harg0 arg1 harg1 arg3 arg4 x0 x1) 384
    inb_S1024x1024_S128x128_384_384 inb_S1x1024_S1x128_0_384 512 512 rfl rfl (inv3 c arg0 harg0 arg1 harg1 arg3 arg4 x0 x1)
    (k0_pay96 (F := Ideal)) rest3_apply inb_S1024x1024_S128x512_384_512 inb_S1x1024_S1x512_0_512

/-- After block 4. -/
theorem inv5 : Inv (ov x0 x1) 640 (kernelRun0_A.sl.HS1_11 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_9 (F := Ideal) c arg0 harg0 arg1 harg1 arg3 arg4 x0 x1) 512
    inb_S1024x1024_S128x128_512_512 inb_S1x1024_S1x128_0_512 640 384 rfl rfl (inv4 c arg0 harg0 arg1 harg1 arg3 arg4 x0 x1)
    (k0_pay101 (F := Ideal)) rest4_apply inb_S1024x1024_S128x384_512_640 inb_S1x1024_S1x384_0_640

/-- After block 5. -/
theorem inv6 : Inv (ov x0 x1) 768 (kernelRun0_A.sl.HS1_13 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_11 (F := Ideal) c arg0 harg0 arg1 harg1 arg3 arg4 x0 x1) 640
    inb_S1024x1024_S128x128_640_640 inb_S1x1024_S1x128_0_640 768 256 rfl rfl (inv5 c arg0 harg0 arg1 harg1 arg3 arg4 x0 x1)
    (k0_pay106 (F := Ideal)) rest5_apply inb_S1024x1024_S128x256_640_768 inb_S1x1024_S1x256_0_768

/-- After block 6. -/
theorem inv7 : Inv (ov x0 x1) 896 (kernelRun0_A.sl.HS1_15 (F := Ideal) c arg0 harg0 arg1 harg1 arg3 arg4 x0 x1) :=
  block_step x0 x1 arg3.view arg4.view (kernelRun0_A.sl.HS0_8 (F := Ideal) c arg0 harg0 arg1 harg1 x0 x1)
    (canon_HS0 c arg0 harg0 arg1 harg1 x0 x1) (kernelRun0_A.sl.HS1_13 (F := Ideal) c arg0 harg0 arg1 harg1 arg3 arg4 x0 x1) 768
    inb_S1024x1024_S128x128_768_768 inb_S1x1024_S1x128_0_768 896 128 rfl rfl (inv6 c arg0 harg0 arg1 harg1 arg3 arg4 x0 x1)
    (k0_pay111 (F := Ideal)) rest6_apply inb_S1024x1024_S128x128_768_896 inb_S1x1024_S1x128_0_896

/-- What the body reads back after the last block: the greedy selection. -/
theorem keep_final (k : Fin 1024) :
    kernelRun0_A.sl.v684 (F := Ideal) c arg0 harg0 arg1 harg1 arg3 arg4 x0 x1 (ix2 0 k) = ind (kept (ov x0 x1) k) := by
  refine (readCov_flags arg4.view (kernelRun0_A.sl.HS1_16 (F := Ideal) c arg0 harg0 arg1 harg1 arg3 arg4 x0 x1) 0 1024
    inb_S1x1024_S1x1024_0_0 k (by have := k.isLt; omega)).trans ?_
  refine Eq.trans ?_ (keepAt_low x0 x1 arg3.view arg4.view (kernelRun0_A.sl.HS0_8 (F := Ideal) c arg0 harg0 arg1 harg1 x0 x1)
    (canon_HS0 c arg0 harg0 arg1 harg1 x0 x1)
    (kernelRun0_A.sl.HS1_15 (F := Ideal) c arg0 harg0 arg1 harg1 arg3 arg4 x0 x1) 896
    inb_S1024x1024_S128x128_896_896 inb_S1x1024_S1x128_0_896 (inv7 c arg0 harg0 arg1 harg1 arg3 arg4 x0 x1) (by omega) k
    k.isLt)
  have e : (⟨0 + k, by have := k.isLt; omega⟩ : Fin 1024) = k := Fin.ext (Nat.zero_add _)
  rw [e]
  rfl

end chain

end Cert.KernelIdeal.Gen
-- ==== Proof.KOut.lean ====
/-
  The rows the body places by its products with a one-hot table, and the score of minus infinity past the kept ones.
-/
module

public import Idealize.ShloMosaic.Lib.Pointwise
public import proofs.«01_k».proof.Defs
public import proofs.«01_k».proof.Proof.KChain
public import proofs.«01_k».proof.Proof.KPos
public import proofs.«01_k».proof.Proof.Gen.KernelIdeal.Frame

@[expose] public section

namespace Cert.KernelIdeal.Gen

open Idealize.ShloMosaic SegNms

/-- A lane's word after a block's offset. -/
theorem word_add (l b : ℕ) : IntOp.addi (BitVec.ofNat 32 l) (BitVec.ofNat 32 b) = BitVec.ofNat 32 (b + l) := by
  rw [Nat.add_comm, BitVec.ofNat_add]; rfl

section blocks

variable (keep : ℕ → Prop) (K : FVec Ideal S1x1024 .f32) (hK : ∀ c : Fin 1024, K (ix2 0 c) = ind (keep c))
include hK

set_option maxRecDepth 16384 in
/-- Slots of candidates 0 to 127. -/
theorem slots0 (l : Fin 128) : k0_pay120 (F := Ideal) K (ix2 0 l) = posN keep l := by
  pointwise [k0_pay120, k0_pay119, k0_pay118, k0_pay117, k0_pay116]
  exact pos_value keep (fun c => K (ix2 0 c)) hK l (by omega) _ (by rw [word_add l 0, Nat.zero_add])

set_option maxRecDepth 16384 in
/-- Slots of candidates 128 to 255. -/
theorem slots1 (l : Fin 128) :
    k0_pay126 (F := Ideal) (k0_pay119 K) (k0_pay122 K) (k0_pay123 K) (k0_pay124 K) k0_pay125
      (FloatOps.ofBits .f32 1056964608#32) (ix2 0 l) = posN keep (128 + l) := by
  pointwise [k0_pay126, k0_pay125, k0_pay124, k0_pay123, k0_pay122, k0_pay121, k0_pay119, k0_pay118, k0_pay117, k0_pay116]
  exact pos_value keep (fun c => K (ix2 0 c)) hK (128 + l) (by omega) _ (word_add _ _)

set_option maxRecDepth 16384 in
/-- Slots of candidates 256 to 383. -/
theorem slots2 (l : Fin 128) :
    k0_pay127 (F := Ideal) K k0_pay116 (k0_pay117 K) (k0_pay118 K) (k0_pay119 K) kernelRun0_A.sl.v698 kernelRun0_A.sl.v699
      (ix2 0 l) = posN keep (256 + l) := by
  pointwise [k0_pay127, k0_pay119, k0_pay118, k0_pay117, k0_pay116, kernelRun0_A.sl.v698, kernelRun0_A.sl.v699]
  exact pos_value keep (fun c => K (ix2 0 c)) hK (256 + l) (by omega) _ (word_add _ _)

set_option maxRecDepth 16384 in
/-- Slots of candidates 384 to 511. -/
theorem slots3 (l : Fin 128) :
    k0_pay128 (F := Ideal) K k0_pay116 (k0_pay117 K) (k0_pay118 K) (k0_pay119 K) kernelRun0_A.sl.v698 kernelRun0_A.sl.v699
      (ix2 0 l) = posN keep (384 + l) := by
  pointwise [k0_pay128, k0_pay119, k0_pay118, k0_pay117, k0_pay116, kernelRun0_A.sl.v698, kernelRun0_A.sl.v699]
  exact pos_value keep (fun c => K (ix2 0 c)) hK (384 + l) (by omega) _ (word_add _ _)

set_option maxRecDepth 16384 in
/-- Slots of candidates 512 to 639. -/
theorem slots4 (l : Fin 128) :
    k0_pay129 (F := Ideal) K k0_pay116 (k0_pay117 K) (k0_pay118 K) (k0_pay119 K) kernelRun0_A.sl.v698 kernelRun0_A.sl.v699
      512#32 (ix2 0 l) = posN keep (512 + l) := by
  pointwise [k0_pay129, k0_pay119, k0_pay118, k0_pay117, k0_pay116, kernelRun0_A.sl.v698, kernelRun0_A.sl.v699]
  exact pos_value keep (fun c => K (ix2 0 c)) hK (512 + l) (by omega) _ (word_add _ _)

set_option maxRecDepth 16384 in
/-- Slots of candidates 640 to 767. -/
theorem slots5 (l : Fin 128) :
    k0_pay130 (F := Ideal) K k0_pay116 (k0_pay117 K) (k0_pay118 K) (k0_pay119 K) kernelRun0_A.sl.v698 kernelRun0_A.sl.v699
      (ix2 0 l) = posN keep (640 + l) := by
  pointwise [k0_pay130, k0_pay119, k0_pay118, k0_pay117, k0_pay116, kernelRun0_A.sl.v698, kernelRun0_A.sl.v699]
  exact pos_value keep (fun c => K (ix2 0 c)) hK (640 + l) (by omega) _ (word_add _ _)

set_option maxRecDepth 16384 in
/-- Slots of candidates 768 to 895. -/
theorem slots6 (l : Fin 128) :
    (if Ideal.ofBits FTy.f32 1056964608#32 < k0_pay135 (F := Ideal) k0_pay116 (ix2 0 l) then
      if Ideal.ofBits FTy.f32 1056964608#32 < k0_pay134 (F := Ideal) K (ix2 0 l) then
        k0_pay132 (F := Ideal) (k0_pay117 K) kernelRun0_A.sl.v698 kernelRun0_A.sl.v699 (ix2 0 l)
      else k0_pay119 (F := Ideal) K +
        k0_pay133 (F := Ideal) (k0_pay118 K) kernelRun0_A.sl.v698 kernelRun0_A.sl.v699 (ix2 0 l)
    else Ideal.ofBits FTy.f32 1161527296#32) = posN keep (768 + l) := by
  pointwise [k0_pay135, k0_pay134, k0_pay133, k0_pay132, k0_pay131, k0_pay119, k0_pay118, k0_pay117, k0_pay116,
    kernelRun0_A.sl.v698, kernelRun0_A.sl.v699]
  exact pos_value keep (fun c => K (ix2 0 c)) hK (768 + l) (by omega) _ (word_add _ _)

set_option maxRecDepth 16384 in
/-- Slots of candidates 896 to 1023. -/
theorem slots7 (l : ℕ) (hl : l < 128) :
    (if Ideal.ofBits FTy.f32 1056964608#32 < k0_pay116 (F := Ideal) (ix2 0 ⟨896 + l, by omega⟩) then
      if Ideal.ofBits FTy.f32 1056964608#32 < K (ix2 0 ⟨896 + l, by omega⟩) then
        ∑ x : Fin 1024, k0_pay117 (F := Ideal) K (ix2 0 x) * FloatOps.sitofp (F := Ideal) FTy.f32
          (BitVec.setWidth 32 (IntOp.cmpi CmpIPredicate.slt (BitVec.ofNat 32 ↑x) (IntOp.addi (BitVec.ofNat 32 l) 896#32)))
      else k0_pay119 (F := Ideal) K +
        ∑ x : Fin 1024, k0_pay118 (F := Ideal) K (ix2 0 x) * FloatOps.sitofp (F := Ideal) FTy.f32
          (BitVec.setWidth 32 (IntOp.cmpi CmpIPredicate.slt (BitVec.ofNat 32 ↑x) (IntOp.addi (BitVec.ofNat 32 l) 896#32)))
    else Ideal.ofBits FTy.f32 1161527296#32) = posN keep (896 + l) := by
  pointwise [k0_pay119, k0_pay118, k0_pay117, k0_pay116]
  exact pos_value keep (fun c => K (ix2 0 c)) hK (896 + l) (by omega) _ (word_add _ _)

end blocks

set_option maxRecDepth 16384 in
/-- The gathered rows: the sum over the candidates whose slot is the row. -/
theorem gathered (keep : ℕ → Prop) (K v689 v690 v693 : FVec Ideal S1x1024 .f32) (v697 : Ideal .f32)
    (p0 p1 p2 p3 p4 p5 a b c d : FVec Ideal S1x128 .f32)
    (h0 : ∀ l : Fin 128, p0 (ix2 0 l) = posN keep l) (h1 : ∀ l : Fin 128, p1 (ix2 0 l) = posN keep (128 + l))
    (h2 : ∀ l : Fin 128, p2 (ix2 0 l) = posN keep (256 + l)) (h3 : ∀ l : Fin 128, p3 (ix2 0 l) = posN keep (384 + l))
    (h4 : ∀ l : Fin 128, p4 (ix2 0 l) = posN keep (512 + l)) (h5 : ∀ l : Fin 128, p5 (ix2 0 l) = posN keep (640 + l))
    (h6 : ∀ l : Fin 128, (if Ideal.ofBits FTy.f32 1056964608#32 < d (ix2 0 l) then
      if Ideal.ofBits FTy.f32 1056964608#32 < c (ix2 0 l) then a (ix2 0 l) else v697 + b (ix2 0 l)
      else Ideal.ofBits FTy.f32 1161527296#32) = posN keep (768 + l))
    (h7 : ∀ (l : ℕ) (hl : l < 128), (if Ideal.ofBits FTy.f32 1056964608#32 < v689 (ix2 0 ⟨896 + l, by omega⟩) then
      if Ideal.ofBits FTy.f32 1056964608#32 < K (ix2 0 ⟨896 + l, by omega⟩) then
        ∑ x : Fin 1024, v690 (ix2 0 x) * FloatOps.sitofp (F := Ideal) FTy.f32
          (BitVec.setWidth 32 (IntOp.cmpi CmpIPredicate.slt (BitVec.ofNat 32 ↑x) (IntOp.addi (BitVec.ofNat 32 l) 896#32)))
      else v697 +
        ∑ x : Fin 1024, v693 (ix2 0 x) * FloatOps.sitofp (F := Ideal) FTy.f32
          (BitVec.setWidth 32 (IntOp.cmpi CmpIPredicate.slt (BitVec.ofNat 32 ↑x) (IntOp.addi (BitVec.ofNat 32 l) 896#32)))
      else Ideal.ofBits FTy.f32 1161527296#32) = posN keep (896 + l))
    (x : FVec Ideal S1024x8 .f32) (s : Fin 128) (j : Fin 8) :
    k0_pay136 (F := Ideal) K v689 v690 v693 v697 kernelRun0_A.sl.v698 kernelRun0_A.sl.v699 p0 p1 p2 p3 p4 p5 a b c d
      (FloatOps.ofBits .f32 1056964608#32) x (ix2 s j) =
      ∑ c : Fin 1024, ind (posN keep c = ((s : ℕ) : EReal)) * x (ix2 c j) := by
  pointwise [k0_pay136, kernelRun0_A.sl.v698, kernelRun0_A.sl.v699]
  refine Finset.sum_congr rfl fun r _ => congrArg (· * _) ?_
  rw [sitofp_bit, sitofp_nat _ (by omega)]
  refine ind_congr (Eq.congr_left ?_)
  have hr := r.isLt
  by_cases c0 : (r : ℕ) < 128
  · rw [dif_pos c0, h0]
  rw [dif_neg c0]
  by_cases c1 : (r : ℕ) - 128 < 128
  · rw [dif_pos c1, h1]
    exact congrArg (posN keep) (by dsimp only; omega)
  rw [dif_neg c1]
  by_cases c2 : (r : ℕ) - 128 - 128 < 128
  · rw [dif_pos c2, h2]
    exact congrArg (posN keep) (by dsimp only; omega)
  rw [dif_neg c2]
  by_cases c3 : (r : ℕ) - 128 - 128 - 128 < 128
  · rw [dif_pos c3, h3]
    exact congrArg (posN keep) (by dsimp only; omega)
  rw [dif_neg c3]
  by_cases c4 : (r : ℕ) - 128 - 128 - 128 - 128 < 128
  · rw [dif_pos c4, h4]
    exact congrArg (posN keep) (by dsimp only; omega)
  rw [dif_neg c4]
  by_cases c5 : (r : ℕ) - 128 - 128 - 128 - 128 - 128 < 128
  · rw [dif_pos c5, h5]
    exact congrArg (posN keep) (by dsimp only; omega)
  rw [dif_neg c5]
  by_cases c6 : (r : ℕ) - 128 - 128 - 128 - 128 - 128 - 128 < 128
  · rw [dif_pos c6, h6]
    exact congrArg (posN keep) (by dsimp only; omega)
  rw [dif_neg c6]
  rw [h7 _ (by omega)]
  exact congrArg (posN keep) (by omega)

/-- Only one candidate has a given slot. -/
theorem slot_pick (keep : ℕ → Prop) (x : Fin 1024 → EReal) (s : ℕ) (hs : s < 128) (c : ℕ) (hc : c < 1000)
    (h : slot keep 1000 c = s) :
    ∑ r : Fin 1024, ind (posN keep r = (s : EReal)) * x r = x ⟨c, by omega⟩ := by
  rw [Finset.sum_eq_single (⟨c, by omega⟩ : Fin 1024)]
  · rw [ind_true (by unfold posN; rw [if_pos hc, h]), one_mul]
  · intro r _ hne
    rw [ind_false, zero_mul]
    intro hp
    unfold posN at hp
    split at hp
    · rename_i hr
      rw [natCast_inj] at hp
      exact hne (Fin.ext (slot_inj hr hc (hp.trans h.symm)))
    · rw [padW_eq, natCast_inj] at hp
      omega
  · intro hn; exact absurd (Finset.mem_univ _) hn

set_option maxRecDepth 16384 in
/-- The rows past the selected ones have their score replaced. -/
theorem masked (t : Ideal .f32) (n : ℕ) (ht : t = ((n : ℕ) : EReal)) (s : Fin 128) (j : Fin 8) (y : FVec Ideal S128x8 .f32) :
    k0_pay1 (F := Ideal) y (k0_pay137 t) k0_pay138 (ix2 s j) =
      (open Classical in if n ≤ (s : ℕ) ∧ (j : ℕ) = 5 then Ideal.ofBits .f32 4286578688#32 else y (ix2 s j)) := by
  pointwise [k0_pay1, k0_pay137, k0_pay138]
  rw [sitofp_nat _ (by omega), WordCmp.cmpi_eq_ofNat (by omega) (by omega), ht]
  have hc : (((n : ℕ) : EReal) ≤ (((s : ℕ) : ℕ) : EReal)) ↔ n ≤ (s : ℕ) := by norm_cast
  by_cases h1 : n ≤ (s : ℕ) <;> by_cases h2 : (j : ℕ) = 5
  · rw [decide_eq_true (hc.2 h1), decide_eq_true h2, if_pos ⟨h1, h2⟩]; rfl
  · rw [decide_eq_true (hc.2 h1), decide_eq_false h2, if_neg fun h => h2 h.2]; rfl
  · rw [decide_eq_false (fun h => h1 (hc.1 h)), decide_eq_true h2, if_neg fun h => h1 h.1]; rfl
  · rw [decide_eq_false (fun h => h1 (hc.1 h)), decide_eq_false h2, if_neg fun h => h1 h.1]; rfl

set_option maxRecDepth 16384 in
/-- The number of selected candidates. -/
theorem total_value (keep : ℕ → Prop) (K : FVec Ideal S1x1024 .f32) (hK : ∀ c : Fin 1024, K (ix2 0 c) = ind (keep c)) :
    k0_pay119 (F := Ideal) K = ((cnt keep 1000 : ℕ) : EReal) := by
  pointwise [k0_pay119, k0_pay117, k0_pay116]
  rw [← total_sum keep]
  refine (Fintype.sum_unique _).trans (Finset.sum_congr rfl fun x _ => ?_)
  rw [hK x, sitofp_slt x 1000 (by omega) (by omega)]

/-- The block the body writes: row `s` is the row of the candidate whose place is `s`, with the score
    of a candidate that is not selected replaced. -/
theorem block_entry (c : Dev nD) (arg0 : Memref sig .tc .vmem S8x1024 .f32) (harg0 : arg0.IsWhole)
    (arg1 : Memref sig .tc .vmem S1024x8 .f32) (harg1 : arg1.IsWhole) (arg2 : Memref sig .tc .vmem S128x8 .f32) (harg2 : arg2.IsWhole)
    (arg3 : Memref sig .tc .vmem S1024x1024 .f32) (harg3 : arg3.IsWhole) (arg4 : Memref sig .tc .vmem S1x1024 .f32) (harg4 : arg4.IsWhole)
    (x0 : FVec Ideal S8x1024 .f32) (x1 : FVec Ideal S1024x8 .f32) (s : Fin 128) (j : Fin 8) (r : ℕ) (hr : r < 1000)
    (h : slot (kept (ov x0 x1)) 1000 r = s) :
    out0_A_2 (F := Ideal) c arg0 harg0 arg1 harg1 arg2 harg2 arg3 harg3 arg4 harg4 x0 x1 (ix2 s j) =
      (open Classical in if cnt (kept (ov x0 x1)) 1000 ≤ (s : ℕ) ∧ (j : ℕ) = 5 then Ideal.ofBits .f32 4286578688#32
        else x1 (ix2 ⟨r, by omega⟩ j)) := by
  have hK := keep_final c arg0 harg0 arg1 harg1 arg3 arg4 x0 x1
  unfold out0_A_2
  rw [View.read_writes_eq_canon _ _ _ (cover0_A_2 (F := Ideal) c arg0 harg0 arg1 harg1 arg2 harg2 arg3 harg3 arg4 harg4 x0 x1)]
  unfold kernelRun0_A
  dsimp only
  rw [View.canon_unit_zero hz2]
  refine (masked _ _ (total_value _ _ hK) s j _).trans ?_
  have hg := gathered (kept (ov x0 x1)) (kernelRun0_A.sl.v684 (F := Ideal) c arg0 harg0 arg1 harg1 arg3 arg4 x0 x1)
    _ _ _ _ _ _ _ _ _ _ _ _ _ _ (slots0 _ _ hK) (slots1 _ _ hK) (slots2 _ _ hK) (slots3 _ _ hK) (slots4 _ _ hK)
    (slots5 _ _ hK) (slots6 _ _ hK) (slots7 _ _ hK)
    (View.readAt (Elt Ideal) arg1.view (Rect.unit ![0, 0] S1024x8.size inb_S1024x8_S1024x8_0_0).toLoadRect (harg1.unread x1)) s j
  congr 1
  refine Eq.trans hg ?_
  rw [View.readAt_eq_ld, harg1.read_unread, View.ld_unit_zero (S := S1024x8) hz2]
  exact slot_pick _ (fun r => x1 (ix2 r j)) s s.isLt r hr h

end Cert.KernelIdeal.Gen
-- ==== Proof.KIn.lean ====
/-
  What the call receives, candidate by candidate: each candidate's box, class and score, and zeros in the padding.
-/
module

public import proofs.«01_k».proof.Proof.KHost
public import proofs.«01_k».proof.Proof.KPos
public import proofs.«01_k».proof.Proof.KOut

@[expose] public section

noncomputable section

namespace Cert.KernelIdeal.Gen

open Idealize.ShloMosaic Idealize.ShloMosaic.TcCoe SegNms

section entry

variable (m : (ℓ : Loc nD τ sig) → Buf (Elt Ideal) ℓ) (c : Dev nD)

/-- The contents as launched and after each stretch of lines. -/
def U0 : Valuation τ sig (Elt Ideal) := fun b => m (c, b)
/-- What the buffers hold after the first stretch: the probabilities and the selected candidates. -/
def U1 : Valuation τ sig (Elt Ideal) := StableHlo.after hostOps0 (U0 m c)
/-- After the second stretch: the candidates' queries. -/
def U2 : Valuation τ sig (Elt Ideal) := StableHlo.after hostOps0_1 (U1 m c)
/-- After the third stretch. -/
def U3 : Valuation τ sig (Elt Ideal) := StableHlo.after hostOps0_2 (U2 m c)
/-- After the fourth stretch: the candidates' classes. -/
def U4 : Valuation τ sig (Elt Ideal) := StableHlo.after hostOps0_3 (U3 m c)

/-- The buffers the call starts from are those after the fifth stretch. -/
theorem V0_split : V0 m c = StableHlo.after hostOps0_4 (U4 m c) := by
  unfold U4 U3 U2 U1 U0 V0
  rw [← StableHlo.after_append, ← StableHlo.after_append, ← StableHlo.after_append, ← StableHlo.after_append]
  simp only [List.flatten_cons, List.flatten_nil, List.append_nil, List.append_assoc]

/-- The probabilities and boxes of the launch. -/
def pv : FVec Ideal S80000 .f32 := probs (U0 m c (Proc.devRef .tc main_arg0))
/-- The boxes, as the program receives them. -/
def bx : FVec Ideal S1000x4 .f32 := U0 m c (Proc.devRef .tc main_arg1)

/-- Candidate `r`'s index is `pick`. -/
theorem idx_at (r : Fin 1000) : (U1 m c (Proc.devRef .tc main_indices) : IVec S1000 32) (ix1 r) = BitVec.ofNat 32 (pick (pv m c) r) := by
  unfold U1; rw [indices_eq]; exact (topK_read (by decide) _ _ r).2

/-- Candidate `r`'s score is `score`. -/
theorem val_at (r : Fin 1000) : (U1 m c (Proc.devRef .tc main_values) : FVec Ideal S1000 .f32) (ix1 r) = score (pv m c) r := by
  unfold U1; rw [values_eq]; exact (topK_read (by decide) _ _ r).1

/-- The queries are still there before the fifth stretch. -/
theorem U4_v8 : U4 m c (Proc.devRef .tc main_v8) = U2 m c (Proc.devRef .tc main_v8) := by
  unfold U4 U3 hostOps0_3 hostOps0_2; after_reads_simp
/-- The scores are still there before the fifth stretch. -/
theorem U4_values : U4 m c (Proc.devRef .tc main_values) = U1 m c (Proc.devRef .tc main_values) := by
  unfold U4 U3 U2 hostOps0_3 hostOps0_2 hostOps0_1; after_reads_simp
/-- The boxes are still there before the fifth stretch. -/
theorem U4_arg1 : U4 m c (Proc.devRef .tc main_arg1) = U0 m c (Proc.devRef .tc main_arg1) := by
  unfold U4 U3 U2 U1 hostOps0_3 hostOps0_2 hostOps0_1 hostOps0; after_reads_simp
/-- The indices are still there before the fourth stretch. -/
theorem U3_indices : U3 m c (Proc.devRef .tc main_indices) = U1 m c (Proc.devRef .tc main_indices) := by
  unfold U3 U2 hostOps0_2 hostOps0_1; after_reads_simp

/-- Candidate `r`'s query number. -/
theorem q_at (r : Fin 1000) : (U4 m c (Proc.devRef .tc main_v8) : IVec S1000 32) (ix1 r) = BitVec.ofNat 32 (query (pv m c) r) := by
  rw [U4_v8]
  exact v8_eq _ r _ (pick (pv m c) r).isLt (idx_at m c r) (c_eq _)

/-- Candidate `r`'s class number. -/
theorem l_at (r : Fin 1000) : (U4 m c (Proc.devRef .tc main_v9) : IVec S1000 32) (ix1 r) = BitVec.ofNat 32 (label (pv m c) r) :=
  v9_eq _ r _ (pick (pv m c) r).isLt (by rw [U3_indices]; exact idx_at m c r) (c1_eq _)

/-- A query number below 1000 is in range: the wrap-around of negative indices leaves it alone. -/
theorem wrap_at (q : IVec S1000 32) (r : Fin 1000) (a : ℕ) (ha : a < 1000) (h : q (ix1 r) = BitVec.ofNat 32 a) :
    wrapQ q (ix2 r 0) = BitVec.ofNat 32 a := by
  pointwise [wrapQ]
  rw [h]
  exact Routing.wrap_of_lt _ _ (by simp only [BitVec.toNat_ofNat]; omega)

/-- The gathered boxes. -/
theorem box_at (b : FVec Ideal S1000x4 .f32) (q : IVec S1000 32) (r : Fin 1000) (a : Fin 1000) (h : q (ix1 r) = BitVec.ofNat 32 a) (k : Fin 4) :
    (Host.gather gather_S1000x4_S1000x1_S1000x4_1_0_n_n_0_1_14 b (wrapQ q)) (ix2 r k) = b (ix2 a k) :=
  Routing.gather_row gather_S1000x4_S1000x1_S1000x4_1_0_n_n_0_1_14 rfl rfl rfl rfl rfl b (wrapQ q) r k a (wrap_at q r a a.isLt h) (by decide)

/-- The body's second input at a candidate's row. -/
theorem V27_at (r : ℕ) (hr : r < 1000) (j : Fin 8) :
    (V m c main_v27 : FVec Ideal S1024x8 .f32) (ix2 ⟨r, by omega⟩ j) =
      if h : (j : ℕ) < 5 then five (pv m c) (bx m c) ⟨r, hr⟩ ⟨j, h⟩ else if (j : ℕ) = 5 then score (pv m c) ⟨r, hr⟩ else 0 := by
  show (V0 m c (Proc.devRef .tc main_v27) : FVec Ideal S1024x8 .f32) _ = _
  rw [V0_split, v27_eq, packed_at]
  simp only [dif_pos hr, U4_arg1, U4_values]
  unfold five
  have hj := j.isLt
  by_cases h4 : (j : ℕ) < 4
  · rw [dif_pos h4, dif_pos (by omega), dif_pos h4]
    exact box_at _ _ _ _ (q_at m c ⟨r, hr⟩) _
  rw [dif_neg h4]
  by_cases h5 : (j : ℕ) < 5
  · rw [if_pos (by omega), dif_pos h5, dif_neg h4]
    show FloatOps.sitofp (F := Ideal) .f32 ((U4 m c (Proc.devRef .tc main_v9) : IVec S1000 32) (ix1 ⟨r, hr⟩)) = _
    rw [l_at]
    exact sitofp_nat _ (by have := label_lt (pv m c) ⟨r, hr⟩; omega)
  rw [if_neg (by omega), dif_neg h5]
  by_cases h6 : (j : ℕ) = 5
  · rw [if_pos (by omega), if_pos h6]
    exact val_at m c ⟨r, hr⟩
  · rw [if_neg (by omega), if_neg h6]

/-- The body's first input is the second transposed. -/
theorem V28_at (j : Fin 8) (r : Fin 1024) :
    (V m c main_v28 : FVec Ideal S8x1024 .f32) (ix2 j r) = (V m c main_v27 : FVec Ideal S1024x8 .f32) (ix2 r j) := by
  show (V0 m c (Proc.devRef .tc main_v28) : FVec Ideal S8x1024 .f32) _ = (V0 m c (Proc.devRef .tc main_v27) : FVec Ideal S1024x8 .f32) _
  rw [V0_split, v28_eq]
  generalize StableHlo.after hostOps0_4 (U4 m c) (Proc.devRef .tc main_v27) = y
  pointwise []

/-- The overlaps the body finds are the specified ones. -/
theorem ov_iff (r k : ℕ) (hr : r < 1000) (hk : k < 1000) :
    ov (V m c main_v28) (V m c main_v27) r k ↔ overlaps (five (pv m c) (bx m c) ⟨r, hr⟩) (five (pv m c) (bx m c) ⟨k, hk⟩) := by
  have e : ∀ (r : ℕ) (hr : r < 1000), rowOf (V m c main_v27 : FVec Ideal S1024x8 .f32) ⟨r, by omega⟩ = five (pv m c) (bx m c) ⟨r, hr⟩ := by
    intro r hr
    funext q
    unfold rowOf
    rw [V27_at m c r hr, dif_pos (by have := q.isLt; simpa using this)]
    rfl
  have e' : ∀ (r : ℕ) (hr : r < 1000), colOf (V m c main_v28 : FVec Ideal S8x1024 .f32) ⟨r, by omega⟩ = five (pv m c) (bx m c) ⟨r, hr⟩ := by
    intro r hr
    rw [← e r hr]
    funext q
    exact V28_at m c _ _
  constructor
  · rintro ⟨h1, h2, h⟩
    rw [e r hr, e' k hk] at h
    exact h
  · intro h
    refine ⟨by omega, by omega, ?_⟩
    rw [e r hr, e' k hk]
    exact h

end entry

end Cert.KernelIdeal.Gen
-- ==== Proof.KRun.lean ====
/-
  The kernel as a whole: its call's output, the lines after it, and so its four results.
-/
module

public import proofs.«01_k».proof.Proof.KIn
public import Idealize.ShloMosaic.Lib.Pipeline.Value

@[expose] public section

noncomputable section

namespace Cert.KernelIdeal.Gen

open Idealize.ShloMosaic Idealize.ShloMosaic.TcCoe Idealize.SL.Sem SegNms

section run

variable (m : (ℓ : Loc nD τ sig) → Buf (Elt Ideal) ℓ) (ρ : Dev nD → PrngReg) (c : Dev nD)

/-- The one block of the first input is the whole array. -/
theorem iblk0 (t : Fin cfg0.N) : iblk m c 0 t = (V m c main_v28 : FVec Ideal S8x1024 .f32) := by
  rw [fin_N0 t]
  have hz' : (fun a => win0_0.index t0_0 a * main_v28.ty.shape.size a) = fun _ => 0 := funext fun a => by fin_cases a <;> decide
  exact Memref.read_access_unit_zero (Elt Ideal) main_v28 hz' (fun a => by rw [congrFun hz' a]; simp) (V m c main_v28)

/-- So is the one block of the second. -/
theorem iblk1 (t : Fin cfg0.N) : iblk m c 1 t = (V m c main_v27 : FVec Ideal S1024x8 .f32) := by
  rw [fin_N0 t]
  have hz' : (fun a => win0_1.index t0_0 a * main_v27.ty.shape.size a) = fun _ => 0 := funext fun a => by fin_cases a <;> decide
  exact Memref.read_access_unit_zero (Elt Ideal) main_v27 hz' (fun a => by rw [congrFun hz' a]; simp) (V m c main_v27)

/-- The output array after the launch. -/
def outArr : FVec Ideal S128x8 .f32 := outsAt0 m c t0_0

/-- What the call writes back is the body's output, read through the window's only block. -/
theorem flushed_out (t : Fin cfg0.N) :
    (dats m 0 c).flushed 2 t = ((cfg0.win 2).blk t).view.read (Elt Ideal) (outArr m c) := by
  rw [fin_N0 t]
  show (cfg0.win 2).cut (grid0.coords t0_0) ((dats m 0 c).after 2 t0_0) = _
  rw [after0_2]
  have hz' : (fun a => win0_2.index t0_0 a * main_v29.ty.shape.size a) = fun _ => 0 := funext fun a => by fin_cases a <;> decide
  exact (Memref.read_access_unit_zero (Elt Ideal) main_v29 hz' (fun a => by rw [congrFun hz' a]; simp) (outArr m c)).symm

/-- After the call the output array is the body's output. -/
theorem final_out : (dats m 0 c).arrAt 2 cfg0.N = outArr m c :=
  (dats m 0 c).arrAt_eq_of_cover 2 (outArr m c) (fun t _ => flushed_out m c t) fun i =>
    ⟨t0_0, by decide +kernel, by
      show i ∈ ((View.whole main_v29).slice (win0_2.rect t0_0)).set
      rw [View.set_slice_whole, Rect.mem_set_unit]
      intro a
      have h0 : (i 0 : Nat) < 128 := (i 0).isLt
      have h1 : (i 1 : Nat) < 8 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 128 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 8 from by decide +kernel]; omega⟩

/-- The output array at an entry. -/
theorem outArr_at (s : Fin 100) (j : Fin 8) :
    outArr m c (ix2 (s.castLE (by decide)) j) =
      (open Classical in if cnt (kept (hit (pv m c) (bx m c))) 1000 ≤ (s : ℕ) ∧ (j : ℕ) = 5 then negInf
        else (V m c main_v27 : FVec Ideal S1024x8 .f32) (ix2 ((seat (pv m c) (bx m c) (wide s)).castLE (by decide)) j)) := by
  have hk : ∀ r, r < 1000 → (kept (ov (V m c main_v28) (V m c main_v27)) r ↔ kept (hit (pv m c) (bx m c)) r) :=
    kept_hit (pv m c) (bx m c) _ fun r k hr hk => ov_iff m c r k hr hk
  unfold outArr outsAt0
  rw [iblk0, iblk1]
  have hs := seat_slot (pv m c) (bx m c) (wide s)
  rw [← slot_congr 1000 hk _ (seat (pv m c) (bx m c) (wide s)).isLt] at hs
  refine (block_entry c _ _ _ _ _ _ _ _ _ _ _ _ (s.castLE (by decide)) j _ (seat (pv m c) (bx m c) (wide s)).isLt hs).trans ?_
  rw [cnt_congr 1000 hk]
  rfl

/-- A small number converted, rounded and converted back. -/
theorem round_trip (a : ℕ) (ha : a < 80) :
    FloatOps.fptosi (F := Ideal) (φ := .f32) 32 (Ideal.liftRound Ideal.roundHalfEven ((a : ℕ) : EReal)) = BitVec.ofNat 32 a := by
  have e : Ideal.liftRound Ideal.roundHalfEven ((a : ℕ) : EReal) = ((a : ℕ) : EReal) := by
    show (((Ideal.roundHalfEven ((a : ℕ) : ℝ) : ℤ) : ℝ) : EReal) = (((a : ℕ) : ℝ) : EReal)
    unfold Ideal.roundHalfEven
    simp
  rw [e]
  have f : Ideal.toIntClamped (-(2 ^ (32 - 1) : ℕ)) ((2 ^ (32 - 1) : ℕ) - 1) (((a : ℕ) : ℝ) : EReal) = (a : ℤ) := by
    rw [Ideal.toIntClamped_coe, if_pos (Nat.cast_nonneg a), Int.floor_natCast]
    omega
  exact (congrArg (BitVec.ofInt 32) f).trans (by simp)

/-- The contents when the lines after the launch begin. -/
def UT : Valuation τ sig (Elt Ideal) :=
  Pipeline.withArrays (cfgs 0).spec c (V0 m c) fun w => (dats m 0 c).arrAt w (cfgs 0).N

/-- The lines after the call start from the body's output. -/
theorem UT_v29 : UT m c (Proc.devRef .tc main_v29) = outArr m c :=
  (Pipeline.withArrays_arr spec0 (by decide) c (V0 m c) (fun w => (dats m 0 c).arrAt w cfg0.N) 2).trans (final_out m c)

/-- The first result: the score of each output slot. -/
theorem tail31 (s : Fin 100) :
    (Pipeline.afterTail₀ cfgs (dats m) 0 (V0 m) [hostOps1, hostOps1_1, hostOps1_2] c main_v31 : FVec Ideal S100 .f32) (ix1 s) = outScore (pv m c) (bx m c) s := by
  show (StableHlo.after [hostOps1, hostOps1_1, hostOps1_2].flatten (UT m c) (Proc.devRef .tc main_v31) : FVec Ideal S100 .f32) (ix1 s) = _
  simp only [List.flatten_cons, List.flatten_nil, List.append_nil, List.cons_append, List.nil_append]
  after_reads_at
  rw [UT_v29]
  refine (outArr_at m c s 5).trans ?_
  unfold outScore
  by_cases h : cnt (kept (hit (pv m c) (bx m c))) 1000 ≤ (s : ℕ)
  · rw [if_pos ⟨h, rfl⟩, if_pos h]
  · rw [if_neg fun x => h x.1, if_neg h]
    exact V27_at m c _ (seat (pv m c) (bx m c) (wide s)).isLt 5

/-- The second result: the class of each output slot. -/
theorem tail35 (s : Fin 100) :
    (Pipeline.afterTail₀ cfgs (dats m) 0 (V0 m) [hostOps1, hostOps1_1, hostOps1_2] c main_v35 : IVec S100 32) (ix1 s) = outLabel (pv m c) (bx m c) s := by
  show (StableHlo.after [hostOps1, hostOps1_1, hostOps1_2].flatten (UT m c) (Proc.devRef .tc main_v35) : IVec S100 32) (ix1 s) = _
  simp only [List.flatten_cons, List.flatten_nil, List.append_nil, List.cons_append, List.nil_append]
  after_reads_at
  rw [UT_v29]
  have e := outArr_at m c s 4
  rw [if_neg (by simp)] at e
  replace e := e.trans (V27_at m c _ (seat (pv m c) (bx m c) (wide s)).isLt 4)
  refine (congrArg (fun z => FloatOps.fptosi (F := Ideal) (φ := .f32) 32 (Ideal.liftRound Ideal.roundHalfEven z)) e).trans ?_
  exact round_trip _ (label_lt _ _)

/-- The third result: the box of each output slot. -/
theorem tail36 (s : Fin 100) (k : Fin 4) :
    (Pipeline.afterTail₀ cfgs (dats m) 0 (V0 m) [hostOps1, hostOps1_1, hostOps1_2] c main_v36 : FVec Ideal S100x4 .f32) (ix2 s k) = outBox (pv m c) (bx m c) s k := by
  show (StableHlo.after [hostOps1, hostOps1_1, hostOps1_2].flatten (UT m c) (Proc.devRef .tc main_v36) : FVec Ideal S100x4 .f32) (ix2 s k) = _
  simp only [List.flatten_cons, List.flatten_nil, List.append_nil, List.cons_append, List.nil_append]
  after_reads_at
  rw [UT_v29]
  refine (outArr_at m c s ⟨k, by omega⟩).trans ?_
  have hk := k.isLt
  rw [if_neg (by simp; omega)]
  refine (V27_at m c _ (seat (pv m c) (bx m c) (wide s)).isLt ⟨k, by omega⟩).trans ?_
  rw [dif_pos (by simp; omega)]
  unfold five
  rw [dif_pos hk]
  rfl

/-- The fourth result: zeros. -/
theorem tail37 (s : Fin 100) :
    (Pipeline.afterTail₀ cfgs (dats m) 0 (V0 m) [hostOps1, hostOps1_1, hostOps1_2] c main_v37 : IVec S100 32) (ix1 s) = 0#32 := by
  show (StableHlo.after [hostOps1, hostOps1_1, hostOps1_2].flatten (UT m c) (Proc.devRef .tc main_v37) : IVec S100 32) (ix1 s) = _
  simp only [List.flatten_cons, List.flatten_nil, List.append_nil, List.cons_append, List.nil_append]
  after_reads_at

/-- What the kernel's program ends with. -/
theorem kernel_run : θ_run defs (onTc (τ := τ) (main (F := Ideal))) ⟨m, fun _ => 0, ρ⟩ (fun r => ∀ c : Dev nD,
      r.2.mem ((c.tc : Thread nD τ).loc main_v31) = (fun i => outScore (pv m c) (bx m c) (i 0) : FVec Ideal S100 .f32)
      ∧ r.2.mem ((c.tc : Thread nD τ).loc main_v35) = (fun i => outLabel (pv m c) (bx m c) (i 0) : IVec S100 32)
      ∧ r.2.mem ((c.tc : Thread nD τ).loc main_v36) = (fun i => outBox (pv m c) (bx m c) (i 0) (i 1) : FVec Ideal S100x4 .f32)
      ∧ r.2.mem ((c.tc : Thread nD τ).loc main_v37) = (fun _ => 0#32 : IVec S100 32)) :=
  (θ_run defs _ _).mono (fun r h c => by
    have rest := fun b hb => (h c).2 b hb
    refine ⟨(rest main_v31 (Pipeline.mem_restRefs_of main_v31 (by decide) (by decide))).trans ?_,
      (rest main_v35 (Pipeline.mem_restRefs_of main_v35 (by decide) (by decide))).trans ?_,
      (rest main_v36 (Pipeline.mem_restRefs_of main_v36 (by decide) (by decide))).trans ?_,
      (rest main_v37 (Pipeline.mem_restRefs_of main_v37 (by decide) (by decide))).trans ?_⟩
    · funext i; rw [eq_ix1 i]; exact tail31 m c (i 0)
    · funext i; rw [eq_ix1 i]; exact tail35 m c (i 0)
    · funext i; rw [eq_ix2 i]; exact tail36 m c (i 0) (i 1)
    · funext i; rw [eq_ix1 i]; exact tail37 m c (i 0)) (run_main m ρ)

end run

end Cert.KernelIdeal.Gen
-- ==== Proof.RHost.lean ====
/-
  The reference's lines before its loop, in three stretches, and what each leaves, entry by entry.
-/
module

public import proofs.«01_k».proof.Defs
public import proofs.«01_k».proof.Proof.Spec
public import proofs.«01_k».proof.Proof.KPos
public import proofs.«01_k».proof.Proof.Gen.ReferenceIdeal.Run
public import Idealize.ShloMosaic.Lib.StableHlo.ReadAt
public import Idealize.ShloMosaic.Lib.Pointwise
public import Idealize.ShloMosaic.Lib.Routing.Ops
public import Idealize.ShloMosaic.Lib.Routing.OpsSearch
public import Idealize.ShloMosaic.Lib.Routing.OpsSet
public import Idealize.ShloMosaic.Lib.Routing.OpsPair
public import Idealize.ShloMosaic.Lib.Routing.Words

@[expose] public section

noncomputable section

namespace Cert.ReferenceIdeal.Gen

open Idealize.ShloMosaic Idealize.ShloMosaic.TcCoe SegNms

/-- The class probabilities, flattened. -/
def probs (x : FVec Ideal S1000x81 .f32) : FVec Ideal S80000 .f32 :=
  shapeCast S80000
    (Host.divf (broadcastInDim S1000x80 ![] bcast_S_S1000x80 (constant S_ .f32 0x3F800000#32 : FVec Ideal S_ .f32))
      (addf (broadcastInDim S1000x80 ![] bcast_S_S1000x80 (constant S_ .f32 0x3F800000#32 : FVec Ideal S_ .f32))
        (Host.exp (Host.negf (extractStridedSlice S1000x80 ![0, 0] x slices_S1000x81_S1000x80_0_0)))))
    shapeCasts_S1000x80_S80000

/-! ## The lines before the loop, in three stretches -/

/-- The selection and the two tables of numbers, with the first two gathers. -/
abbrev opsA : List (HloOp τ sig (Elt Ideal)) := hostOps0.take 37
/-- The boxes of the candidates, shifted by class. -/
abbrev opsB : List (HloOp τ sig (Elt Ideal)) := (hostOps0.drop 37).take 16
/-- Their areas and the corners of each pair's intersection. -/
abbrev opsC : List (HloOp τ sig (Elt Ideal)) := (hostOps0.drop 37).drop 16

/-- The lines before the loop are three stretches, one after another. -/
theorem ops_cut : (hostOps0 : List (HloOp τ sig (Elt Ideal))) = opsA ++ (opsB ++ opsC) := by
  rw [List.take_append_drop, List.take_append_drop]

section lines

variable (U : Valuation τ sig (Elt Ideal))

/-- The candidates' scores are the selection's values. -/
theorem values_eq : StableHlo.after opsA U (Proc.devRef .tc main_values) =
    (Host.topK S1000 0 (FloatOps.cmpfTotal .gt) (probs (U (Proc.devRef .tc main_arg0))) sliceFits_S80000_S1000).1 := by
  simp only [opsA, hostOps0, List.take_succ_cons, List.take_zero]
  after_results
  rfl

/-- The candidates' indices are the selection's indices. -/
theorem indices_eq : StableHlo.after opsA U (Proc.devRef .tc main_indices) =
    (Host.topK S1000 0 (FloatOps.cmpfTotal .gt) (probs (U (Proc.devRef .tc main_arg0))) sliceFits_S80000_S1000).2 := by
  simp only [opsA, hostOps0, List.take_succ_cons, List.take_zero]
  after_results
  rfl

/-- Each flat position's query. -/
def queries : IVec S80000 32 := shapeCast S80000 (broadcastInDim S1000x80 ![0] bcast_S1000_S1000x80_0 (iotaInDim S1000 32 0)) shapeCasts_S1000x80_S80000
/-- Each flat position's class. -/
def classes : IVec S80000 32 :=
  shapeCast S80000 (broadcastInDim S1000x80 ![0, 1] bcast_S1x80_S1000x80_0_1 (shapeCast S1x80 (iotaInDim S80 32 0) shapeCasts_S80_S1x80)) shapeCasts_S1000x80_S80000

/-- A flat position below zero counts from the end. -/
def wrapP (q : IVec S1000 32) : IVec S1000x1 32 :=
  broadcastInDim S1000x1 ![0] bcast_S1000_S1000x1_0
    (select (cmpi .slt q (broadcastInDim S1000 ![] bcast_S_S1000 (constantI S_ 32 0#32)))
      (addi q (broadcastInDim S1000 ![] bcast_S_S1000 (constantI S_ 32 80000#32))) q)

/-- So does a query. -/
def wrapQ (q : IVec S1000 32) : IVec S1000x1 32 :=
  broadcastInDim S1000x1 ![0] bcast_S1000_S1000x1_0
    (select (cmpi .slt q (broadcastInDim S1000 ![] bcast_S_S1000 (constantI S_ 32 0#32)))
      (addi q (broadcastInDim S1000 ![] bcast_S_S1000 (constantI S_ 32 1000#32))) q)

/-- The candidates' queries are gathered from the table of queries. -/
theorem v21_eq : StableHlo.after opsA U (Proc.devRef .tc main_v21) =
    Host.gather gather_S80000_S1000x1_S1000_n_0_n_n_0_1_1 queries (wrapP (StableHlo.after opsA U (Proc.devRef .tc main_indices))) := by
  rw [indices_eq]
  simp only [opsA, hostOps0, List.take_succ_cons, List.take_zero]
  after_results
  rfl

/-- The candidates' classes are gathered from the table of classes. -/
theorem v28_eq : StableHlo.after opsA U (Proc.devRef .tc main_v28) =
    Host.gather gather_S80000_S1000x1_S1000_n_0_n_n_0_1_1 classes (wrapP (StableHlo.after opsA U (Proc.devRef .tc main_indices))) := by
  rw [indices_eq]
  simp only [opsA, hostOps0, List.take_succ_cons, List.take_zero]
  after_results
  rfl

/-- The candidates' boxes are gathered from the boxes by query. -/
theorem v35_eq : StableHlo.after opsB U (Proc.devRef .tc main_v35) =
    Host.gather gather_S1000x4_S1000x1_S1000x4_1_0_n_n_0_1_14 (U (Proc.devRef .tc main_arg1) : FVec Ideal S1000x4 .f32) (wrapQ (U (Proc.devRef .tc main_v21))) := by
  simp only [opsB, hostOps0, List.take_succ_cons, List.take_zero, List.drop_succ_cons, List.drop_zero]
  after_results
  rfl

set_option maxRecDepth 16384 in
/-- Entry `a` of the table of queries is `a / 80`. -/
theorem queries_at (a : Fin 80000) : queries (ix1 a) = BitVec.ofNat 32 ((a : ℕ) / 80) := by
  pointwise [queries]

set_option maxRecDepth 16384 in
/-- Entry `a` of the table of classes is `a % 80`. -/
theorem classes_at (a : Fin 80000) : classes (ix1 a) = BitVec.ofNat 32 ((a : ℕ) % 80) := by
  pointwise [classes]

/-- A gather at a position taken from the table of positions. -/
theorem table_at (t : IVec S80000 32) (q : IVec S1000 32) (r : Fin 1000) (a : Fin 80000) (h : q (ix1 r) = BitVec.ofNat 32 a) :
    (Host.gather gather_S80000_S1000x1_S1000_n_0_n_n_0_1_1 t (wrapP q)) (ix1 r) = t (ix1 a) := by
  have e : wrapP q (ix2 r 0) = BitVec.ofNat 32 a := by
    pointwise [wrapP]
    rw [h]
    exact Routing.wrap_of_lt _ _ (by simp only [BitVec.toNat_ofNat]; omega)
  exact Routing.take_ap gather_S80000_S1000x1_S1000_n_0_n_n_0_1_1 rfl rfl rfl rfl t (wrapP q) r a.isLt (by omega) e

/-- The gathered boxes. -/
theorem box_at (b : FVec Ideal S1000x4 .f32) (q : IVec S1000 32) (r : Fin 1000) (a : Fin 1000) (h : q (ix1 r) = BitVec.ofNat 32 a) (k : Fin 4) :
    (Host.gather gather_S1000x4_S1000x1_S1000x4_1_0_n_n_0_1_14 b (wrapQ q)) (ix2 r k) = b (ix2 a k) := by
  have e : wrapQ q (ix2 r 0) = BitVec.ofNat 32 a := by
    pointwise [wrapQ]
    rw [h]
    exact Routing.wrap_of_lt _ _ (by simp only [BitVec.toNat_ofNat]; omega)
  exact Routing.gather_row gather_S1000x4_S1000x1_S1000x4_1_0_n_n_0_1_14 rfl rfl rfl rfl rfl b (wrapQ q) r k a e (by decide)

/-- A shifted corner is the box's corner plus the class times the offset. -/
theorem v41_at (r : Fin 1000) (k : Fin 4) (b l : EReal)
    (hb : (StableHlo.after opsB U (Proc.devRef .tc main_v35) : FVec Ideal S1000x4 .f32) (ix2 r k) = b)
    (hl : FloatOps.sitofp (F := Ideal) .f32 ((U (Proc.devRef .tc main_v28) : IVec S1000 32) (ix1 r)) = l) :
    (StableHlo.after opsB U (Proc.devRef .tc main_v41) : FVec Ideal S1000x4 .f32) (ix2 r k) = b + l * offW := by
  subst hb hl
  rw [v35_eq]
  simp only [opsB, hostOps0, List.take_succ_cons, List.take_zero, List.drop_succ_cons, List.drop_zero]
  after_reads_at
  rfl

section third

variable (W : Fin 1000 → Fin 4 → EReal) (hW : ∀ r k, ((U (Proc.devRef .tc main_v41) : FVec Ideal S1000x4 .f32) (ix2 r k) : EReal) = W r k)
include hW

/-- The area of a row's shifted box. -/
theorem v52_at (r : Fin 1000) : ((StableHlo.after opsC U (Proc.devRef .tc main_v52) : FVec Ideal S1000 .f32) (ix1 r) : EReal) =
    (W r 2 - W r 0) * (W r 3 - W r 1) := by
  simp only [opsC, hostOps0, List.take_succ_cons, List.take_zero, List.drop_succ_cons, List.drop_zero]
  after_reads_at
  simp only [hW]

/-- The area of a column's shifted box. -/
theorem v63_at (r : Fin 1000) : ((StableHlo.after opsC U (Proc.devRef .tc main_v63) : FVec Ideal S1000 .f32) (ix1 r) : EReal) =
    (W r 2 - W r 0) * (W r 3 - W r 1) := by
  simp only [opsC, hostOps0, List.take_succ_cons, List.take_zero, List.drop_succ_cons, List.drop_zero]
  after_reads_at
  simp only [hW]

/-- The extent of the intersection of two shifted boxes, not yet clipped. -/
theorem v78_at (r c : Fin 1000) (k : Fin 2) : ((StableHlo.after opsC U (Proc.devRef .tc main_v78) : FVec Ideal S1000x1000x2 .f32) (ix3 r c k) : EReal) =
    min (W r ⟨2 + k, by omega⟩) (W c ⟨2 + k, by omega⟩) - max (W r ⟨k, by omega⟩) (W c ⟨k, by omega⟩) := by
  simp only [opsC, hostOps0, List.take_succ_cons, List.take_zero, List.drop_succ_cons, List.drop_zero]
  after_reads_at
  simp only [hW]

end third

/-- The lower limit of the clipping is zero. -/
theorem cst7_at : (StableHlo.after opsC U (Proc.devRef .tc main_cst_7) : FVec Ideal S_ .f32) ix0 = (0 : EReal) := by
  simp only [opsC, hostOps0, List.take_succ_cons, List.take_zero, List.drop_succ_cons, List.drop_zero]
  after_reads_at

/-- The clipped extent. -/
theorem v79_at (h0 : (U (Proc.devRef .tc main_cst_7) : FVec Ideal S_ .f32) ix0 = (0 : EReal)) (r c : Fin 1000) (k : Fin 2) (x : EReal)
    (hx : (U (Proc.devRef .tc main_v78) : FVec Ideal S1000x1000x2 .f32) (ix3 r c k) = x) :
    (StableHlo.after hostOps0_1 U (Proc.devRef .tc main_v79) : FVec Ideal S1000x1000x2 .f32) (ix3 r c k) = max 0 x := by
  subst hx
  unfold hostOps0_1
  after_reads_at
  simp only [id, h0]

/-- An entry of the overlap table: the intersection over the union plus the small constant. -/
theorem v96_at (r c : Fin 1000) (w h a b : EReal)
    (hw : (U (Proc.devRef .tc main_v79) : FVec Ideal S1000x1000x2 .f32) (ix3 r c 0) = w)
    (hh : (U (Proc.devRef .tc main_v79) : FVec Ideal S1000x1000x2 .f32) (ix3 r c 1) = h)
    (ha : (U (Proc.devRef .tc main_v52) : FVec Ideal S1000 .f32) (ix1 r) = a)
    (hb : (U (Proc.devRef .tc main_v63) : FVec Ideal S1000 .f32) (ix1 c) = b) :
    (StableHlo.after hostOps0_2 U (Proc.devRef .tc main_v96_0) : FVec Ideal S1000x1000 .f32) (ix2 r c) =
      Ideal.div (w * h) (a + b - w * h + epsW) := by
  subst hw hh ha hb
  unfold hostOps0_2
  after_reads_at
  simp only [id]
  pointwise []

/-- The loop's table of positions: position `r` at `r`. -/
theorem v96_1_at (r : Fin 1000) : (StableHlo.after hostOps0_2 U (Proc.devRef .tc main_v96_1) : IVec S1000 32) (ix1 r) = BitVec.ofNat 32 r := by
  unfold hostOps0_2
  after_reads_at
  simp only [id]
  pointwise []
/-- The loop's counter starts at zero. -/
theorem v96_3_at : (StableHlo.after hostOps0_2 U (Proc.devRef .tc main_v96_3) : IVec S_ 32) ix0 = 0#32 := by
  unfold hostOps0_2
  after_reads_at
  simp only [id]
  pointwise []
/-- Every candidate's flag starts on. -/
theorem v96_4_at (r : Fin 1000) : (StableHlo.after hostOps0_2 U (Proc.devRef .tc main_v96_4) : IVec S1000 1) (ix1 r) = 1#1 := by
  unfold hostOps0_2
  after_reads_at
  simp only [id]
  pointwise []

end lines

end Cert.ReferenceIdeal.Gen
-- ==== Proof.RIn.lean ====
/-
  What the reference's loop starts from: the candidates, and the table of overlaps between them.
-/
module

public import proofs.«01_k».proof.Proof.RHost

@[expose] public section

noncomputable section

namespace Cert.ReferenceIdeal.Gen

open Idealize.ShloMosaic Idealize.ShloMosaic.TcCoe SegNms Cert.ReferenceIdeal.Value

section entry

variable (m : (ℓ : Loc nD τ sig) → Buf (Elt Ideal) ℓ) (c : Dev nD)

/-- The contents as launched and after each stretch of lines before the loop. -/
def T0 : Valuation τ sig (Elt Ideal) := StableHlo.launchContents m c
/-- What the buffers hold after the first stretch: candidates, queries and classes. -/
def TA : Valuation τ sig (Elt Ideal) := StableHlo.after opsA (T0 m c)
/-- After the second stretch: the candidates' boxes. -/
def TB : Valuation τ sig (Elt Ideal) := StableHlo.after opsB (TA m c)
/-- After the third stretch: areas and unclipped intersections. -/
def TC : Valuation τ sig (Elt Ideal) := StableHlo.after opsC (TB m c)
/-- After the clipping. -/
def T1 : Valuation τ sig (Elt Ideal) := StableHlo.after hostOps0_1 (TC m c)
/-- Before the loop: the overlap table and the loop's starting values. -/
def T2 : Valuation τ sig (Elt Ideal) := StableHlo.after hostOps0_2 (T1 m c)

/-- The loop starts from these buffers. -/
theorem entry_split : StableHlo.entryContents preI m c = T2 m c := by
  unfold T2 T1 TC TB TA T0
  show StableHlo.after hostOps0_2 (StableHlo.after hostOps0_1 (StableHlo.after hostOps0 _)) = _
  rw [ops_cut, StableHlo.after_append, StableHlo.after_append]

/-- The probabilities and boxes of the launch. -/
def pv : FVec Ideal S80000 .f32 := probs (T0 m c (Proc.devRef .tc main_arg0))
/-- The boxes, as the program receives them. -/
def bx : FVec Ideal S1000x4 .f32 := T0 m c (Proc.devRef .tc main_arg1)

/-- Candidate `r`'s index is `pick`. -/
theorem idx_at (r : Fin 1000) : (TA m c (Proc.devRef .tc main_indices) : IVec S1000 32) (ix1 r) = BitVec.ofNat 32 (pick (pv m c) r) := by
  unfold TA; rw [indices_eq]; exact (topK_read (by decide) _ _ r).2

/-- Candidate `r`'s score is `score`. -/
theorem val_at (r : Fin 1000) : (TA m c (Proc.devRef .tc main_values) : FVec Ideal S1000 .f32) (ix1 r) = score (pv m c) r := by
  unfold TA; rw [values_eq]; exact (topK_read (by decide) _ _ r).1

/-- The first stretch leaves the boxes alone. -/
theorem TA_arg1 : TA m c (Proc.devRef .tc main_arg1) = T0 m c (Proc.devRef .tc main_arg1) := by
  unfold TA
  simp only [opsA, hostOps0, List.take_succ_cons, List.take_zero]
  after_reads_simp

/-- Candidate `r`'s query number. -/
theorem q_at (r : Fin 1000) : (TA m c (Proc.devRef .tc main_v21) : IVec S1000 32) (ix1 r) = BitVec.ofNat 32 (query (pv m c) r) := by
  unfold TA; rw [v21_eq]
  exact (table_at _ _ r _ (idx_at m c r)).trans (queries_at _)

/-- Candidate `r`'s class number. -/
theorem l_at (r : Fin 1000) : (TA m c (Proc.devRef .tc main_v28) : IVec S1000 32) (ix1 r) = BitVec.ofNat 32 (label (pv m c) r) := by
  unfold TA; rw [v28_eq]
  exact (table_at _ _ r _ (idx_at m c r)).trans (classes_at _)

/-- Candidate `r`'s box is its query's. -/
theorem v35_at (r : Fin 1000) (k : Fin 4) : (TB m c (Proc.devRef .tc main_v35) : FVec Ideal S1000x4 .f32) (ix2 r k) = bx m c (ix2 (query (pv m c) r) k) := by
  unfold TB; rw [v35_eq, TA_arg1]
  exact box_at _ _ r _ (q_at m c r) k

/-- The shifted boxes. -/
theorem v41_read (r : Fin 1000) (k : Fin 4) :
    (TB m c (Proc.devRef .tc main_v41) : FVec Ideal S1000x4 .f32) (ix2 r k) = shifted (five (pv m c) (bx m c) r) ⟨k, by omega⟩ := by
  have e : FloatOps.sitofp (F := Ideal) .f32 ((TA m c (Proc.devRef .tc main_v28) : IVec S1000 32) (ix1 r)) = ((label (pv m c) r : ℕ) : EReal) := by
    rw [l_at]
    exact sitofp_nat _ (by have := label_lt (pv m c) r; omega)
  refine (v41_at (TA m c) r k _ _ (v35_at m c r k) e).trans ?_
  unfold shifted five
  rw [dif_pos k.isLt, dif_neg (by decide)]

/-- The row's area is the candidate's `area`. -/
theorem a52 (r : Fin 1000) : (T1 m c (Proc.devRef .tc main_v52) : FVec Ideal S1000 .f32) (ix1 r) = area (five (pv m c) (bx m c) r) := by
  have e : T1 m c (Proc.devRef .tc main_v52) = TC m c (Proc.devRef .tc main_v52) := by
    unfold T1 hostOps0_1; after_reads_simp
  rw [e]
  exact v52_at (TB m c) _ (v41_read m c) r

/-- The column's area is the candidate's `area`. -/
theorem a63 (r : Fin 1000) : (T1 m c (Proc.devRef .tc main_v63) : FVec Ideal S1000 .f32) (ix1 r) = area (five (pv m c) (bx m c) r) := by
  have e : T1 m c (Proc.devRef .tc main_v63) = TC m c (Proc.devRef .tc main_v63) := by
    unfold T1 hostOps0_1; after_reads_simp
  rw [e]
  exact v63_at (TB m c) _ (v41_read m c) r

/-- The clipped extent of the intersection of two candidates' shifted boxes. -/
theorem a79 (r a : Fin 1000) (k : Fin 2) : (T1 m c (Proc.devRef .tc main_v79) : FVec Ideal S1000x1000x2 .f32) (ix3 r a k) =
    max 0 (min (shifted (five (pv m c) (bx m c) r) ⟨2 + k, by omega⟩) (shifted (five (pv m c) (bx m c) a) ⟨2 + k, by omega⟩)
      - max (shifted (five (pv m c) (bx m c) r) ⟨k, by omega⟩) (shifted (five (pv m c) (bx m c) a) ⟨k, by omega⟩)) :=
  v79_at (TC m c) (cst7_at (TB m c)) r a k _ (v78_at (TB m c) _ (v41_read m c) r a k)

/-- The table of overlaps at the loop's entry. -/
theorem iou_at (r a : Fin 1000) : (T2 m c (Proc.devRef .tc main_v96_0) : FVec Ideal S1000x1000 .f32) (ix2 r a) =
    iou (five (pv m c) (bx m c) r) (five (pv m c) (bx m c) a) := by
  refine (v96_at (T1 m c) r a _ _ _ _ (a79 m c r a 0) (a79 m c r a 1) (a52 m c r) (a63 m c a)).trans ?_
  unfold iou inter
  rw [max_comm 0, max_comm 0]
  rfl

/-- The scores are still there when the loop starts. -/
theorem T2_values : T2 m c (Proc.devRef .tc main_values) = TA m c (Proc.devRef .tc main_values) := by
  unfold T2 T1 TC TB hostOps0_2 hostOps0_1
  simp only [opsC, opsB, hostOps0, List.take_succ_cons, List.take_zero, List.drop_succ_cons, List.drop_zero]
  after_reads_simp
/-- The classes are still there when the loop starts. -/
theorem T2_v28 : T2 m c (Proc.devRef .tc main_v28) = TA m c (Proc.devRef .tc main_v28) := by
  unfold T2 T1 TC TB hostOps0_2 hostOps0_1
  simp only [opsC, opsB, hostOps0, List.take_succ_cons, List.take_zero, List.drop_succ_cons, List.drop_zero]
  after_reads_simp
/-- The boxes are still there when the loop starts. -/
theorem T2_v35 : T2 m c (Proc.devRef .tc main_v35) = TB m c (Proc.devRef .tc main_v35) := by
  unfold T2 T1 TC hostOps0_2 hostOps0_1
  simp only [opsC, hostOps0, List.take_succ_cons, List.take_zero, List.drop_succ_cons, List.drop_zero]
  after_reads_simp

end entry

end Cert.ReferenceIdeal.Gen
-- ==== Proof.RLoop.lean ====
/-
  The reference's loop of a thousand steps: after step `n` the flags say which candidates are alive, so at the end which
  are kept.
-/
module

public import proofs.«01_k».proof.Proof.RIn

@[expose] public section

noncomputable section

namespace Cert.ReferenceIdeal.Gen

open Idealize.ShloMosaic Idealize.ShloMosaic.TcCoe SegNms Cert.ReferenceIdeal.Value

/-- A bit stays set unless the three others are. -/
theorem keep_bit (p q r s : Bool) :
    IntOp.andi (BitVec.ofBool p) (~~~IntOp.andi (IntOp.andi (BitVec.ofBool q) (BitVec.ofBool r)) (BitVec.ofBool s)) =
      BitVec.ofBool (p && !(r && (s && q))) := by
  cases p <;> cases q <;> cases r <;> cases s <;> rfl

section trip

variable (X : Valuation τ sig (Elt Ideal)) (k : ℕ) (hk : k < 1000) (I : Fin 1000 → Fin 1000 → EReal) (K : ℕ → Prop)

open Classical in
/-- One trip of the loop. -/
theorem step_at
  (h0 : ∀ r a, (X (Proc.devRef .tc main_v96_0) : FVec Ideal S1000x1000 .f32) (ix2 r a) = I r a)
  (h1 : ∀ r : Fin 1000, (X (Proc.devRef .tc main_v96_1) : IVec S1000 32) (ix1 r) = BitVec.ofNat 32 r)
  (h3 : (X (Proc.devRef .tc main_v96_3) : IVec S_ 32) ix0 = BitVec.ofNat 32 k)
  (h4 : ∀ r : Fin 1000, (X (Proc.devRef .tc main_v96_4) : IVec S1000 1) (ix1 r) = BitVec.ofBool (decide (K r)))
  (a : Fin 1000) : (step_main_v96_4 X : IVec S1000 1) (ix1 a) = BitVec.ofBool (decide (K a ∧ ¬ (k < a ∧ K k ∧ thrW < I ⟨k, hk⟩ a))) := by
  unfold step_main_v96_4 res_main_while0b_v114
  simp only [id]
  pointwise []
  have e0 : ∀ (p q : ℕ) (hp : p < 1000) (hq : q < 1000), p = k → q = a →
      (X (Proc.devRef .tc main_v96_0) : FVec Ideal S1000x1000 .f32) (ix2 ⟨p, hp⟩ ⟨q, hq⟩) = I ⟨k, hk⟩ a := by
    intro p q hp hq h h'
    subst h h'
    exact h0 _ _
  have e4 : ∀ (p : ℕ) (hp : p < 1000), p = k →
      (X (Proc.devRef .tc main_v96_4) : IVec S1000 1) (ix1 ⟨p, hp⟩) = BitVec.ofBool (decide (K k)) := by
    intro p hp h
    subst h
    exact h4 _
  have e3 : ∀ i, (X (Proc.devRef .tc main_v96_3) : IVec S_ 32) i = BitVec.ofNat 32 k := fun i =>
    (congrArg (X (Proc.devRef .tc main_v96_3) : IVec S_ 32) (funext fun q : Fin 0 => q.elim0 : i = ix0)).trans h3
  have ew : (Scalar.select (IntOp.cmpi CmpIPredicate.slt (BitVec.ofNat 32 k) 0#32) (IntOp.addi (BitVec.ofNat 32 k) 1000#32) (BitVec.ofNat 32 k)).toInt = (k : ℤ) := by
    rw [Routing.wrap_of_lt _ _ (by simp only [BitVec.toNat_ofNat]; omega)]
    exact WordCmp.toInt_ofNat_of_lt (w := 32) (by omega)
  rw [h4 a, e0, e4, h1, h3, WordCmp.cmpi_sgt_ofNat (by omega) (by omega)]
  · refine (keep_bit _ _ _ _).trans (congrArg BitVec.ofBool ?_)
    by_cases p1 : K a <;> by_cases p2 : K k <;> by_cases p3 : k < (a : ℕ) <;> by_cases p4 : thrW < I ⟨k, hk⟩ a <;>
      simp [p1, p2, p3, p4]
  · refine Host.clampedStart_of_le _ _ _ k ?_ (show k + 1 ≤ 1000 by omega)
    rw [e3]
    exact ew
  · refine Host.clampedStart_of_le _ _ _ k ?_ (show k + 1 ≤ 1000 by omega)
    show BitVec.toInt (Scalar.select (IntOp.cmpi CmpIPredicate.slt ((X (Proc.devRef .tc main_v96_3) : IVec S_ 32) _) 0#32)
      (IntOp.addi ((X (Proc.devRef .tc main_v96_3) : IVec S_ 32) _) 1000#32) ((X (Proc.devRef .tc main_v96_3) : IVec S_ 32) _)) = _
    rw [e3]
    exact ew
  · refine (congrArg (· + (a : ℕ)) (Host.clampedStart_of_le _ _ _ 0 ?_ (show 0 + 1000 ≤ 1000 by omega))).trans (Nat.zero_add _)
    rfl

end trip

section loop

variable (m : (ℓ : Loc nD τ sig) → Buf (Elt Ideal) ℓ) (c : Dev nD)

open Classical in
/-- The loop's buffers after `k` trips. -/
theorem loop_inv : ∀ k : ℕ, k ≤ 1000 →
    (∀ r a, (STEP^[k] (T2 m c) (Proc.devRef .tc main_v96_0) : FVec Ideal S1000x1000 .f32) (ix2 r a) =
        iou (five (pv m c) (bx m c) r) (five (pv m c) (bx m c) a))
    ∧ (∀ r : Fin 1000, (STEP^[k] (T2 m c) (Proc.devRef .tc main_v96_1) : IVec S1000 32) (ix1 r) = BitVec.ofNat 32 r)
    ∧ (STEP^[k] (T2 m c) (Proc.devRef .tc main_v96_3) : IVec S_ 32) ix0 = BitVec.ofNat 32 k
    ∧ (∀ r : Fin 1000, (STEP^[k] (T2 m c) (Proc.devRef .tc main_v96_4) : IVec S1000 1) (ix1 r) =
        BitVec.ofBool (decide (alive (hit (pv m c) (bx m c)) k r)))
  | 0, _ => ⟨iou_at m c, v96_1_at _, v96_3_at _, fun r => by
      rw [decide_eq_true (alive_zero _ _)]; exact v96_4_at _ r⟩
  | k + 1, hk => by
    obtain ⟨h0, h1, h3, h4⟩ := loop_inv k (by omega)
    rw [Function.iterate_succ_apply']
    refine ⟨fun r a => ?_, fun r => ?_, ?_, fun r => ?_⟩
    · rw [STEP_main_v96_0]; exact h0 r a
    · rw [STEP_main_v96_1]; exact h1 r
    · rw [STEP_main_v96_3]
      unfold step_main_v96_3
      show IntOp.addi ((STEP^[k] (T2 m c) (Proc.devRef .tc main_v96_3) : IVec S_ 32) ix0) 1#32 = _
      rw [h3]
      exact (BitVec.ofNat_add k 1).symm
    · rw [STEP_main_v96_4, step_at _ k (by omega) _ _ h0 h1 h3 h4]
      refine congrArg BitVec.ofBool (decide_eq_decide.2 ?_)
      refine and_congr Iff.rfl (not_congr (and_congr Iff.rfl (and_congr Iff.rfl ?_)))
      exact ⟨fun x => ⟨by omega, r.isLt, x⟩, fun ⟨_, _, x⟩ => x⟩

open Classical in
/-- After the loop the survivors' bits are set. -/
theorem keep_at (r : Fin 1000) : (atK m 1000 c (Proc.devRef .tc main_v96_4) : IVec S1000 1) (ix1 r) =
    BitVec.ofBool (decide (kept (hit (pv m c) (bx m c)) r)) := by
  rw [atK_agree m c 1000 main_v96_4 (by decide), entry_split]
  rw [(loop_inv m c 1000 (le_refl _)).2.2.2 r]
  exact congrArg BitVec.ofBool (decide_eq_decide.2 (alive_final _ _ _ (by omega)))

/-- The loop writes only its own buffers. -/
theorem loop_keep (b : Ref sig .tc) (h1 : b ∉ condOps_W) (h2 : b ∉ while0Ops0_W) : ∀ k, atK m k c (Proc.devRef .tc b) = T2 m c (Proc.devRef .tc b)
  | 0 => by rw [← entry_split]; rfl
  | k + 1 => by
    show StableHlo.after while0Ops0 (StableHlo.after condOps (atK m k c)) _ = _
    rw [StableHlo.after_of_writes_sub _ _ while0Ops0_writes h2, StableHlo.after_of_writes_sub _ _ condOps_writes h1]
    exact loop_keep b h1 h2 k

end loop

end Cert.ReferenceIdeal.Gen
-- ==== Proof.RRun.lean ====
/-
  The reference as a whole: the loop, the masked scores, the second selection, and so its four results.
-/
module

public import proofs.«01_k».proof.Proof.RLoop

@[expose] public section

noncomputable section

namespace Cert.ReferenceIdeal.Gen

open Idealize.ShloMosaic Idealize.ShloMosaic.TcCoe Idealize.SL.Sem SegNms Cert.ReferenceIdeal.Value

/-- A probability is never minus infinity. -/
theorem probs_ne_bot (x : FVec Ideal S1000x81 .f32) (a : Fin 80000) : (probs x (ix1 a) : EReal) ≠ ⊥ := by
  pointwise [probs]
  have he : ∀ z : EReal, 0 ≤ Ideal.exp z := fun z => by
    induction z with
    | bot => exact le_refl _
    | top => exact le_top
    | coe r => exact EReal.coe_nonneg.2 (Real.exp_pos r).le
  have hy : ∀ z : EReal, 0 < 1 + Ideal.exp z := fun z => lt_of_lt_of_le zero_lt_one (le_add_of_nonneg_right (he z))
  rw [Ideal.div, if_neg (hy _).ne', one_mul]
  exact (lt_of_lt_of_le EReal.bot_lt_zero (EReal.inv_nonneg_of_nonneg (hy _).le)).ne'

/-- The word for minus infinity reads as the least extended real. -/
theorem negInf_eq : negInf = ⊥ := by
  simp [negInf, Ideal.ofBits, Ideal.ieee, -EReal.coe_mul]

section lines

variable (U : Valuation τ sig (Elt Ideal))

/-- The masked scores: a kept candidate's score, minus infinity for the others. -/
theorem v97_at (r : Fin 1000) (p : Prop) [Decidable p] (x : EReal)
    (hk : (U (Proc.devRef .tc main_v96_4) : IVec S1000 1) (ix1 r) = BitVec.ofBool (decide p))
    (hx : (U (Proc.devRef .tc main_values) : FVec Ideal S1000 .f32) (ix1 r) = x) :
    (StableHlo.after hostOps0_4 (StableHlo.after hostOps0_3 U) (Proc.devRef .tc main_v97) : FVec Ideal S1000 .f32) (ix1 r) = if p then x else ⊥ := by
  subst hx
  unfold hostOps0_4 hostOps0_3
  after_reads_at
  simp only [id]
  rw [hk, ← negInf_eq]
  by_cases h : p
  · rw [decide_eq_true h, if_pos h]; rfl
  · rw [decide_eq_false h, if_neg h]; rfl

/-- The result's scores are the second selection's values. -/
theorem values13_eq : StableHlo.after hostOps0_5 U (Proc.devRef .tc main_values_13) =
    (Host.topK S100 0 (FloatOps.cmpfTotal (F := Ideal) (φ := .f32) .gt) (U (Proc.devRef .tc main_v97) : FVec Ideal S1000 .f32) sliceFits_S1000_S100).1 := by
  unfold hostOps0_5
  after_results

/-- The result's positions are the second selection's indices. -/
theorem indices14_eq : StableHlo.after hostOps0_5 U (Proc.devRef .tc main_indices_14) =
    (Host.topK S100 0 (FloatOps.cmpfTotal (F := Ideal) (φ := .f32) .gt) (U (Proc.devRef .tc main_v97) : FVec Ideal S1000 .f32) sliceFits_S1000_S100).2 := by
  unfold hostOps0_5
  after_results

/-- A place below zero counts from the end. -/
def wrapS (q : IVec S100 32) : IVec S100x1 32 :=
  broadcastInDim S100x1 ![0] bcast_S100_S100x1_0
    (select (cmpi .slt q (broadcastInDim S100 ![] bcast_S_S100 (constantI S_ 32 0#32)))
      (addi q (broadcastInDim S100 ![] bcast_S_S100 (constantI S_ 32 1000#32))) q)

/-- A position below 1000 is in range: the wrap-around of negative indices leaves it alone. -/
theorem wrapS_at (q : IVec S100 32) (s : Fin 100) (a : Fin 1000) (h : q (ix1 s) = BitVec.ofNat 32 a) : wrapS q (ix2 s 0) = BitVec.ofNat 32 a := by
  pointwise [wrapS]
  rw [h]
  exact Routing.wrap_of_lt _ _ (by simp only [BitVec.toNat_ofNat]; omega)

/-- The result's classes are gathered by position. -/
theorem v104_eq : StableHlo.after hostOps0_5 U (Proc.devRef .tc main_v104) =
    Host.gather gather_S1000_S100x1_S100_n_0_n_n_0_1_1 (U (Proc.devRef .tc main_v28) : IVec S1000 32) (wrapS (StableHlo.after hostOps0_5 U (Proc.devRef .tc main_indices_14))) := by
  rw [indices14_eq]
  unfold hostOps0_5
  after_results
  rfl

/-- The result's boxes are gathered by position. -/
theorem v111_eq : StableHlo.after hostOps0_5 U (Proc.devRef .tc main_v111) =
    Host.gather gather_S1000x4_S100x1_S100x4_1_0_n_n_0_1_14 (U (Proc.devRef .tc main_v35) : FVec Ideal S1000x4 .f32) (wrapS (StableHlo.after hostOps0_5 U (Proc.devRef .tc main_indices_14))) := by
  rw [indices14_eq]
  unfold hostOps0_5
  after_results
  rfl

/-- The result's batch numbers are zeros. -/
theorem v112_at (s : Fin 100) : (StableHlo.after hostOps0_5 U (Proc.devRef .tc main_v112) : IVec S100 32) (ix1 s) = 0#32 := by
  unfold hostOps0_5
  after_reads_at

end lines

section run

variable (m : (ℓ : Loc nD τ sig) → Buf (Elt Ideal) ℓ) (ρ : Dev nD → PrngReg) (c : Dev nD)

/-- The contents when the loop is left, and after the masking. -/
def P0 : Valuation τ sig (Elt Ideal) := StableHlo.after condOps (atK m 1000 c)
/-- What the buffers hold once the scores are masked. -/
def P4 : Valuation τ sig (Elt Ideal) := StableHlo.after hostOps0_4 (StableHlo.after hostOps0_3 (P0 m c))
/-- What the buffers hold at the end. -/
def P5 : Valuation τ sig (Elt Ideal) := StableHlo.after hostOps0_5 (P4 m c)

/-- The program's last contents, in these stretches. -/
theorem final_split : StableHlo.finalContents condOps preI bodyI postI 1000 m c = P5 m c := rfl

/-- The loop leaves alone what it does not write. -/
theorem P0_keep (b : Ref sig .tc) (h1 : b ∉ condOps_W) (h2 : b ∉ while0Ops0_W) : P0 m c (Proc.devRef .tc b) = T2 m c (Proc.devRef .tc b) := by
  unfold P0
  rw [StableHlo.after_of_writes_sub _ _ condOps_writes h1]
  exact loop_keep m c b h1 h2 1000

/-- The classes are still there before the second selection. -/
theorem P4_v28 : P4 m c (Proc.devRef .tc main_v28) = TA m c (Proc.devRef .tc main_v28) := by
  rw [← T2_v28, ← P0_keep m c main_v28 (by decide) (by decide)]
  unfold P4 hostOps0_4 hostOps0_3; after_reads_simp
/-- The boxes are still there before the second selection. -/
theorem P4_v35 : P4 m c (Proc.devRef .tc main_v35) = TB m c (Proc.devRef .tc main_v35) := by
  rw [← T2_v35, ← P0_keep m c main_v35 (by decide) (by decide)]
  unfold P4 hostOps0_4 hostOps0_3; after_reads_simp

open Classical in
/-- The masked scores. -/
theorem masked_at (r : Fin 1000) : (P4 m c (Proc.devRef .tc main_v97) : FVec Ideal S1000 .f32) (ix1 r) =
    if kept (hit (pv m c) (bx m c)) r then score (pv m c) r else ⊥ := by
  refine v97_at (P0 m c) r _ _ ?_ ?_
  · unfold P0
    rw [StableHlo.after_of_writes_sub _ _ condOps_writes (by decide)]
    exact keep_at m c r
  · rw [P0_keep m c main_values (by decide) (by decide), T2_values]
    exact val_at m c r

/-- The second selection lists the survivors first. -/
theorem place (s : Fin 1000) :
    sortedFrom (greaterEarlier fun a : Fin 1000 => (P4 m c (Proc.devRef .tc main_v97) : FVec Ideal S1000 .f32) (ix1 a)) s = seat (pv m c) (bx m c) s := by
  have h := sorted_masked (score (pv m c)) (fun i j hij => sorted_antitone (fun a => pv m c (ix1 a)) (by exact hij))
    (fun i => probs_ne_bot _ _) (kept (hit (pv m c) (bx m c))) _ (masked_at m c) s
  exact Fin.ext (slot_inj (Fin.isLt _) (Fin.isLt _) (h.trans (seat_slot _ _ s).symm))

/-- The places the second selection gives. -/
theorem places_at (s : Fin 100) : (P5 m c (Proc.devRef .tc main_indices_14) : IVec S100 32) (ix1 s) = BitVec.ofNat 32 (seat (pv m c) (bx m c) (wide s)) := by
  unfold P5; rw [indices14_eq]
  exact (topK_read (by decide) _ _ s).2.trans (congrArg (fun z : Fin 1000 => BitVec.ofNat 32 z) (place m c (wide s)))

/-- The first result: the score of each output slot. -/
theorem res_scores (s : Fin 100) : (P5 m c (Proc.devRef .tc main_values_13) : FVec Ideal S100 .f32) (ix1 s) = outScore (pv m c) (bx m c) s := by
  unfold P5; rw [values13_eq]
  refine (topK_read (by decide) _ _ s).1.trans ?_
  refine (congrArg (fun z : Fin 1000 => (P4 m c (Proc.devRef .tc main_v97) : FVec Ideal S1000 .f32) (ix1 z)) (place m c (wide s))).trans ?_
  refine (masked_at m c _).trans ?_
  unfold outScore
  have e := slot_lt_total (keep := kept (hit (pv m c) (bx m c))) (seat (pv m c) (bx m c) (wide s)).isLt
  rw [seat_slot] at e
  change (s : ℕ) < _ ↔ _ at e
  by_cases h : kept (hit (pv m c) (bx m c)) (seat (pv m c) (bx m c) (wide s))
  · rw [if_pos h, if_neg (Nat.not_le.2 (e.2 h))]
  · rw [if_neg h, if_pos (Nat.not_lt.1 fun x => h (e.1 x)), negInf_eq]

/-- The second result: the class of each output slot. -/
theorem res_labels (s : Fin 100) : (P5 m c (Proc.devRef .tc main_v104) : IVec S100 32) (ix1 s) = outLabel (pv m c) (bx m c) s := by
  have hw := wrapS_at _ s _ (places_at m c s)
  unfold P5 at hw ⊢; rw [v104_eq, P4_v28]
  exact (Routing.take_ap gather_S1000_S100x1_S100_n_0_n_n_0_1_1 rfl rfl rfl rfl _ _ s (Fin.isLt _) (by omega) hw).trans (l_at m c _)

/-- The third result: the box of each output slot. -/
theorem res_boxes (s : Fin 100) (k : Fin 4) : (P5 m c (Proc.devRef .tc main_v111) : FVec Ideal S100x4 .f32) (ix2 s k) = outBox (pv m c) (bx m c) s k := by
  have hw := wrapS_at _ s _ (places_at m c s)
  unfold P5 at hw ⊢; rw [v111_eq, P4_v35]
  exact (Routing.gather_row gather_S1000x4_S100x1_S100x4_1_0_n_n_0_1_14 rfl rfl rfl rfl rfl _ _ s k _ hw (by decide)).trans (v35_at m c _ k)

/-- The arguments are unchanged at the end. -/
theorem P5_arg (b : Ref sig .tc) (hb : b ∈ [main_arg0, main_arg1, main_arg2]) : P5 m c (Proc.devRef .tc b) = m (c, Proc.devRef .tc b) := by
  have e : P5 m c (Proc.devRef .tc b) = P0 m c (Proc.devRef .tc b) := by
    fin_cases hb <;> (unfold P5 P4 hostOps0_5 hostOps0_4 hostOps0_3; after_reads_simp)
  rw [e, P0_keep m c b (by fin_cases hb <;> decide) (by fin_cases hb <;> decide)]
  rw [← entry_split]
  show StableHlo.after hostOps0_2 (StableHlo.after hostOps0_1 (StableHlo.after hostOps0 _)) _ = _
  rw [StableHlo.after_of_writes_sub _ _ hostOps0_2_writes (by fin_cases hb <;> decide),
    StableHlo.after_of_writes_sub _ _ hostOps0_1_writes (by fin_cases hb <;> decide),
    StableHlo.after_of_writes_sub _ _ hostOps0_writes (by fin_cases hb <;> decide)]

set_option maxRecDepth 16384 in
/-- What the reference ends with. -/
theorem reference_run : θ_run defs (onTc (τ := τ) (main (F := Ideal))) ⟨m, fun _ => 0, ρ⟩ (fun r => ∀ c : Dev nD,
      r.2.mem ((c.tc : Thread nD τ).loc main_values_13) = (fun i => outScore (pv m c) (bx m c) (i 0) : FVec Ideal S100 .f32)
      ∧ r.2.mem ((c.tc : Thread nD τ).loc main_v104) = (fun i => outLabel (pv m c) (bx m c) (i 0) : IVec S100 32)
      ∧ r.2.mem ((c.tc : Thread nD τ).loc main_v111) = (fun i => outBox (pv m c) (bx m c) (i 0) (i 1) : FVec Ideal S100x4 .f32)
      ∧ r.2.mem ((c.tc : Thread nD τ).loc main_v112) = (fun _ => 0#32 : IVec S100 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    refine ⟨(h c main_values_13 (by decide)).trans ?_, (h c main_v104 (by decide)).trans ?_, (h c main_v111 (by decide)).trans ?_,
      (h c main_v112 (by decide)).trans ?_, (h c main_arg0 (by decide)).trans (P5_arg m c main_arg0 (by simp)),
      (h c main_arg1 (by decide)).trans (P5_arg m c main_arg1 (by simp)), (h c main_arg2 (by decide)).trans (P5_arg m c main_arg2 (by simp))⟩
    · funext i; rw [eq_ix1 i]; exact res_scores m c (i 0)
    · funext i; rw [eq_ix1 i]; exact res_labels m c (i 0)
    · funext i; rw [eq_ix2 i]; exact res_boxes m c (i 0) (i 1)
    · funext i; rw [eq_ix1 i]; exact v112_at (P4 m c) (i 0)) (run_fold m ρ)

end run

end Cert.ReferenceIdeal.Gen
-- ==== Proof.lean ====
/-
  The five claims together: both programs and the kernel before idealization run and leave their arguments alone, the
  idealized kernel is the kernel with no rewrite, and the idealized kernel and reference end with the same four results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.RRun
public import Idealize.ShloMosaic.Lib.StableHlo.Run
public import Idealize.ShloMosaic.Adequacy
public import Idealize.ShloMosaic.Init

@[expose] public section

noncomputable section

namespace Cert.Proof

open Idealize.ShloMosaic Idealize.SL.Sem Cert.Kernel

/-- The reference runs, leaves its arguments alone, and declares no semaphore. -/
theorem reference_frame : Cert.quiescent_ReferenceIdeal (hReferenceIdeal := Cert.ReferenceIdeal.Gen.facts) := fun m g _ =>
  (θ_run _ _ _).mono (fun r h => ⟨fun c => (h c).2.2.2.2, Idealize.ShloMosaic.sem_eq_zero_of_no_sems (by decide) r.2⟩)
    (Cert.ReferenceIdeal.Gen.reference_run m g)

/-- Both programs end with the same four results. -/
theorem algebraic : Cert.algebraic_KernelIdeal_ReferenceIdeal (hKernelIdeal := Cert.KernelIdeal.Gen.facts)
    (hReferenceIdeal := Cert.ReferenceIdeal.Gen.facts) := fun m g m' g' _ hag => by
  have ep : ∀ c, Cert.ReferenceIdeal.Gen.pv m' c = Cert.KernelIdeal.Gen.pv m c := fun c =>
    congrArg Cert.ReferenceIdeal.Gen.probs (hag c).1
  have eb : ∀ c, Cert.ReferenceIdeal.Gen.bx m' c = Cert.KernelIdeal.Gen.bx m c := fun c => (hag c).2.1
  refine ⟨fun c i => SegNms.outScore (Cert.KernelIdeal.Gen.pv m c) (Cert.KernelIdeal.Gen.bx m c) (i 0),
    fun c i => SegNms.outLabel (Cert.KernelIdeal.Gen.pv m c) (Cert.KernelIdeal.Gen.bx m c) (i 0),
    fun c i => SegNms.outBox (Cert.KernelIdeal.Gen.pv m c) (Cert.KernelIdeal.Gen.bx m c) (i 0) (i 1),
    fun _ _ => 0#32, (θ_run _ _ _).mono (fun r h c => ?_) (θ_run_and (Cert.KernelIdeal.Gen.kernel_run m g) (Cert.KernelIdeal.Gen.unchanged m g)),
    (θ_run _ _ _).mono (fun r h c => ?_) (Cert.ReferenceIdeal.Gen.reference_run m' g')⟩
  · exact ⟨(h.1 c).1, (h.1 c).2.1, (h.1 c).2.2.1, (h.1 c).2.2.2, h.2 c⟩
  · obtain ⟨h1, h2, h3, h4, h5⟩ := h c
    have e1 := ep c
    have e2 := eb c
    rw [e1, e2] at h1 h2 h3
    exact ⟨h1, h2, h3, h4, h5⟩

/-- All the claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
